-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x1024 : Shape := ⟨2, ![1024, 1024]⟩
abbrev S64x1024 : Shape := ⟨2, ![64, 1024]⟩
abbrev S64 : Shape := ⟨1, ![64]⟩
abbrev S16x1024 : Shape := ⟨2, ![16, 1024]⟩
abbrev S2048x1024 : Shape := ⟨2, ![2048, 1024]⟩
abbrev S1024x2048 : Shape := ⟨2, ![1024, 2048]⟩
abbrev S1024x64 : Shape := ⟨2, ![1024, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S1024x16 : Shape := ⟨2, ![1024, 16]⟩
abbrev S2048x16 : Shape := ⟨2, ![2048, 16]⟩
abbrev S16x2048 : Shape := ⟨2, ![16, 2048]⟩
abbrev S512x2048 : Shape := ⟨2, ![512, 2048]⟩
abbrev S1024x128 : Shape := ⟨2, ![1024, 128]⟩
abbrev S16x128 : Shape := ⟨2, ![16, 128]⟩
abbrev S512x128 : Shape := ⟨2, ![512, 128]⟩
abbrev S2x2048x128 : Shape := ⟨3, ![2, 2048, 128]⟩
abbrev S2048x128 : Shape := ⟨2, ![2048, 128]⟩
abbrev S64x128 : Shape := ⟨2, ![64, 128]⟩
abbrev S1x128 : Shape := ⟨2, ![1, 128]⟩
abbrev S1x2048x128 : Shape := ⟨3, ![1, 2048, 128]⟩
abbrev S512x1 : Shape := ⟨2, ![512, 1]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S1x2x256x1 : Shape := ⟨4, ![1, 2, 256, 1]⟩
abbrev S1x1x256x1 : Shape := ⟨4, ![1, 1, 256, 1]⟩
abbrev S1x256x1 : Shape := ⟨3, ![1, 256, 1]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S2x2x128x1 : Shape := ⟨4, ![2, 2, 128, 1]⟩
abbrev S2x1x128x1 : Shape := ⟨4, ![2, 1, 128, 1]⟩
abbrev S2x128x1 : Shape := ⟨3, ![2, 128, 1]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S4x2x64x1 : Shape := ⟨4, ![4, 2, 64, 1]⟩
abbrev S4x1x64x1 : Shape := ⟨4, ![4, 1, 64, 1]⟩
abbrev S4x64x1 : Shape := ⟨3, ![4, 64, 1]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S8x2x32x1 : Shape := ⟨4, ![8, 2, 32, 1]⟩
abbrev S8x1x32x1 : Shape := ⟨4, ![8, 1, 32, 1]⟩
abbrev S8x32x1 : Shape := ⟨3, ![8, 32, 1]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S16x2x16x1 : Shape := ⟨4, ![16, 2, 16, 1]⟩
abbrev S16x1x16x1 : Shape := ⟨4, ![16, 1, 16, 1]⟩
abbrev S16x16x1 : Shape := ⟨3, ![16, 16, 1]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S32x2x8x1 : Shape := ⟨4, ![32, 2, 8, 1]⟩
abbrev S32x1x8x1 : Shape := ⟨4, ![32, 1, 8, 1]⟩
abbrev S32x8x1 : Shape := ⟨3, ![32, 8, 1]⟩
abbrev S508x128 : Shape := ⟨2, ![508, 128]⟩
abbrev S4x128 : Shape := ⟨2, ![4, 128]⟩
abbrev S510x128 : Shape := ⟨2, ![510, 128]⟩
abbrev S2x128 : Shape := ⟨2, ![2, 128]⟩
abbrev S511x128 : Shape := ⟨2, ![511, 128]⟩
abbrev S512x512 : Shape := ⟨2, ![512, 512]⟩
abbrev S2048x512 : Shape := ⟨2, ![2048, 512]⟩
abbrev S1x2048x512 : Shape := ⟨3, ![1, 2048, 512]⟩

abbrev nBuf : Space → Nat
  | .hbm => 65
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024x1024, .f32⟩
  | .hbm, ⟨3, _⟩ => ⟨S64x1024, .f32⟩
  | .hbm, ⟨4, _⟩ => ⟨S64, .f32⟩
  | .hbm, ⟨5, _⟩ => ⟨S64, .f32⟩
  | .hbm, ⟨6, _⟩ => ⟨S16x1024, .f32⟩
  | .hbm, ⟨7, _⟩ => ⟨S2048x1024, .f32⟩
  | .hbm, ⟨8, _⟩ => ⟨S2048x1024, .f32⟩
  | .hbm, ⟨9, _⟩ => ⟨S1024x2048, .f32⟩
  | .hbm, ⟨10, _⟩ => ⟨S1024x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .i32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x64, .f32⟩
  | .hbm, ⟨43, _⟩ => ⟨S2048x64, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x64, .f32⟩
  | .hbm, ⟨49, _⟩ => ⟨S2048x64, .f32⟩
  | .hbm, ⟨50, _⟩ => ⟨S1x64, .f32⟩
  | .hbm, ⟨51, _⟩ => ⟨S2048x64, .f32⟩
  | .hbm, ⟨52, _⟩ => ⟨S2048x64, .f32⟩
  | .hbm, ⟨53, _⟩ => ⟨S1x64, .f32⟩
  | .hbm, ⟨54, _⟩ => ⟨S2048x64, .f32⟩
  | .hbm, ⟨55, _⟩ => ⟨S2048x64, .f32⟩
  | .hbm, ⟨56, _⟩ => ⟨S1024x16, .f32⟩
  | .hbm, ⟨57, _⟩ => ⟨S2048x16, .f32⟩
  | .hbm, ⟨58, _⟩ => ⟨S_, .f32⟩
  | .hbm, ⟨59, _⟩ => ⟨S2048x16, .f32⟩
  | .hbm, ⟨60, _⟩ => ⟨S2048x16, .f32⟩
  | .hbm, ⟨61, _⟩ => ⟨S16x2048, .f32⟩
  | .hbm, ⟨62, _⟩ => ⟨S512x2048, .i32⟩
  | .hbm, ⟨63, _⟩ => ⟨S2048x512, .i32⟩
  | .hbm, ⟨64, _⟩ => ⟨S1x2048x512, .i32⟩
  | .local _ .vmem, ⟨0, _⟩ => ⟨S1024x128, .f32⟩
  | .local _ .vmem, ⟨1, _⟩ => ⟨S1024x128, .f32⟩
  | .local _ .vmem, ⟨2, _⟩ => ⟨S1024x1024, .f32⟩
  | .local _ .vmem, ⟨3, _⟩ => ⟨S2048x64, .f32⟩
  | .local _ .vmem, ⟨4, _⟩ => ⟨S16x128, .f32⟩
  | .local _ .vmem, ⟨5, _⟩ => ⟨S16x128, .f32⟩
  | .local _ .vmem, ⟨6, _⟩ => ⟨S512x128, .i32⟩
  | .local _ .vmem, ⟨7, _⟩ => ⟨S512x128, .i32⟩
  | .local _ .vmem, ⟨8, _⟩ => ⟨S2x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v1 : BitVec 1 := Scalar.cmpi .slt arg0 c16_i32
  let v2 : BitVec 32 := Scalar.extui v1
  let c0_i32 : BitVec 32 := 0#32
  let v3 : BitVec 1 := Scalar.cmpi .ne v2 c0_i32
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let v144 : Index := Scalar.indexCast v0
  let c0_42 : Index := 0#32
  let c0_43 : Index := 0#32
  ![v144.toNat, 0, 0]
def k0_cond2 (i : grid0.Coords) : BitVec 1 :=
  let arg0 : BitVec 32 := BitVec.ofNat 32 (i 0).val
  let c0_i32_0 : BitVec 32 := 0#32
  let v4 : BitVec 1 := Scalar.cmpi .sgt arg0 c0_i32_0
  let v5 : BitVec 32 := Scalar.extui v4
  let c0_i32_1 : BitVec 32 := 0#32
  let v6 : BitVec 1 := Scalar.cmpi .ne v5 c0_i32_1
  v6

def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32 v0
  let v8 : Index := Scalar.indexCast v7
  let c0 : Index := 0#32
  let c0_2 : Index := 0#32
  ![v8.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x2048x1024 : Shape := ⟨3, ![1, 2048, 1024]⟩
abbrev S1024x1024 : Shape := ⟨2, ![1024, 1024]⟩
abbrev S64x1024 : Shape := ⟨2, ![64, 1024]⟩
abbrev S64 : Shape := ⟨1, ![64]⟩
abbrev S16x1024 : Shape := ⟨2, ![16, 1024]⟩
abbrev S1x2048x16x64 : Shape := ⟨4, ![1, 2048, 16, 64]⟩
abbrev S1024x64 : Shape := ⟨2, ![1024, 64]⟩
abbrev S1x2048x64 : Shape := ⟨3, ![1, 2048, 64]⟩
abbrev S_ : Shape := ⟨0, ![]⟩
abbrev S1x2048 : Shape := ⟨2, ![1, 2048]⟩
abbrev S1x2048x1 : Shape := ⟨3, ![1, 2048, 1]⟩
abbrev S1x1x64 : Shape := ⟨3, ![1, 1, 64]⟩
abbrev S1x2048x16x2048 : Shape := ⟨4, ![1, 2048, 16, 2048]⟩
abbrev S1024x16 : Shape := ⟨2, ![1024, 16]⟩
abbrev S1x2048x16 : Shape := ⟨3, ![1, 2048, 16]⟩
abbrev S1x2048x16x1 : Shape := ⟨4, ![1, 2048, 16, 1]⟩
abbrev S1x2048x2048 : Shape := ⟨3, ![1, 2048, 2048]⟩
abbrev S1x2048x512 : Shape := ⟨3, ![1, 2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024x1024, .f32⟩
  | .hbm, ⟨3, _⟩ => ⟨S64x1024, .f32⟩
  | .hbm, ⟨4, _⟩ => ⟨S64, .f32⟩
  | .hbm, ⟨5, _⟩ => ⟨S64, .f32⟩
  | .hbm, ⟨6, _⟩ => ⟨S16x1024, .f32⟩
  | .hbm, ⟨7, _⟩ => ⟨S1024x1024, .f32⟩
  | .hbm, ⟨8, _⟩ => ⟨S1x2048x1024, .f32⟩
  | .hbm, ⟨9, _⟩ => ⟨S1x2048x16x64, .f32⟩
  | .hbm, ⟨10, _⟩ => ⟨S1024x64, .f32⟩
  | .hbm, ⟨11, _⟩ => ⟨S1x2048x64, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .i32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x64, .f32⟩
  | .hbm, ⟨26, _⟩ => ⟨S1x2048x64, .f32⟩
  | .hbm, ⟨27, _⟩ => ⟨S1x2048x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x2048, .f32⟩
  | .hbm, ⟨33, _⟩ => ⟨S1x2048x1, .f32⟩
  | .hbm, ⟨34, _⟩ => ⟨S1x2048x1, .f32⟩
  | .hbm, ⟨35, _⟩ => ⟨S1x2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x64, .f32⟩
  | .hbm, ⟨43, _⟩ => ⟨S1x2048x64, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S1x2048x1, .f32⟩
  | .hbm, ⟨48, _⟩ => ⟨S1x2048x64, .f32⟩
  | .hbm, ⟨49, _⟩ => ⟨S1x2048x64, .f32⟩
  | .hbm, ⟨50, _⟩ => ⟨S1x1x64, .f32⟩
  | .hbm, ⟨51, _⟩ => ⟨S1x2048x64, .f32⟩
  | .hbm, ⟨52, _⟩ => ⟨S1x2048x64, .f32⟩
  | .hbm, ⟨53, _⟩ => ⟨S1x1x64, .f32⟩
  | .hbm, ⟨54, _⟩ => ⟨S1x2048x64, .f32⟩
  | .hbm, ⟨55, _⟩ => ⟨S1x2048x64, .f32⟩
  | .hbm, ⟨56, _⟩ => ⟨S1x2048x16x2048, .f32⟩
  | .hbm, ⟨57, _⟩ => ⟨S_, .f32⟩
  | .hbm, ⟨58, _⟩ => ⟨S1x2048x16x2048, .f32⟩
  | .hbm, ⟨59, _⟩ => ⟨S1x2048x16x2048, .f32⟩
  | .hbm, ⟨60, _⟩ => ⟨S1024x16, .f32⟩
  | .hbm, ⟨61, _⟩ => ⟨S1x2048x16, .f32⟩
  | .hbm, ⟨62, _⟩ => ⟨S_, .f32⟩
  | .hbm, ⟨63, _⟩ => ⟨S1x2048x16, .f32⟩
  | .hbm, ⟨64, _⟩ => ⟨S1x2048x16, .f32⟩
  | .hbm, ⟨65, _⟩ => ⟨S1x2048x16x1, .f32⟩
  | .hbm, ⟨66, _⟩ => ⟨S1x2048x16x2048, .f32⟩
  | .hbm, ⟨67, _⟩ => ⟨S1x2048x16x2048, .f32⟩
  | .hbm, ⟨68, _⟩ => ⟨S_, .f32⟩
  | .hbm, ⟨69, _⟩ => ⟨S1x2048x2048, .f32⟩
  | .hbm, ⟨70, _⟩ => ⟨S1x2048x512, .f32⟩
  | .hbm, ⟨71, _⟩ => ⟨S1x2048x512, .i32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_values : Ref sig .tc := ⟨.hbm, 70, rfl⟩
abbrev main_indices : Ref sig .tc := ⟨.hbm, 71, rfl⟩

abbrev nD : Nat := 1
abbrev τ : Topo := Topo.v7x

variable {F : FTy → Type} [FloatOps F]
-- ==== Proof.Bits.Runs.lean ====
/- What the runs of the kernel's body share, and the program around its pipeline. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v29, main_v30}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 1 rfl).trans ((hA c 1).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .i32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x2048x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Bits.RunA.lean ====
/- The body run at the first point. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole) (hc0 : cond0_0 i) (hc1 : ¬cond0_1 i)
    (x0 : Vec F S1024x128 .f32) (x1 : Vec F S1024x1024 .f32) (x2 : Vec F S2048x64 .f32) (x3 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K := by
    intro E K
    simp only [cc0__fused_kernel_eq_skeleton]; unfold cc0__fused_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact HS0
    ipureintro; rfl

end Cert.Kernel.Hand

end
-- ==== Proof.Bits.RunB.lean ====
/- The body run at the points between. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1400000 in
/-- The body's triple IN CASE B (`scf.if` 0 taken, `scf.if` 1 taken: points 1, 2, … 15: 15 of 17): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole) (hc0 : cond0_0 i) (hc1 : cond0_1 i)
    (x0 : Vec F S1024x128 .f32) (x1 : Vec F S1024x1024 .f32) (x2 : Vec F S2048x64 .f32) (x3 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K := by
    intro E K
    simp only [cc0__fused_kernel_eq_skeleton]; unfold cc0__fused_kernel_skel
    simp only [k0_part1_eq_skeleton, k0_part2_eq_skeleton, k0_part3_eq_skeleton, k0_part142_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part143_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact HS0
    ipureintro; rfl

end Cert.Kernel.Hand

end
-- ==== Proof.Bits.RunC.lean ====
/- The body run at the last point. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1344000 in
/-- The body's triple IN CASE C (`scf.if` 0 not taken, `scf.if` 1 taken: points 16): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole) (hc0 : ¬cond0_0 i) (hc1 : cond0_1 i)
    (x0 : Vec F S1024x128 .f32) (x1 : Vec F S1024x1024 .f32) (x2 : Vec F S2048x64 .f32) (x3 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K := by
    intro E K
    simp only [cc0__fused_kernel_eq_skeleton]; unfold cc0__fused_kernel_skel
    simp only [k0_part142_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part143_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact HS0
    ipureintro; rfl

end Cert.Kernel.Hand

end
-- ==== Proof.Bits.Frame.lean ====
/- The frame of Cert.Kernel. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 1200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 17 := lt_of_lt_of_eq t.isLt (show cfg0.N = 17 from N_0)
  by_cases h0 : t.val < 16
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ ((hcond0_0 t).mpr h0) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame claim of the program, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Body.lean ====
module

public import proofs.«01_k».proof.Proof.Gen.KernelIdeal.Frame
public import proofs.«01_k».proof.Proof.Gen.KernelIdeal.Skeleton
public import Idealize.ShloMosaic.Lib.Ring
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .i32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x2048x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Arms.lean ====
/- The kernel body cut in its two arms: the scores' and the sort's. Each arm is the printed skeleton's own text. -/
module

public import proofs.«01_k».proof.Proof.Body

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scores' arm: the scores of the point's 128 query columns, stored in one slot of the scratch. -/
def scoreArm (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (k0_h1 : k0_cond1 i = 1#1) : Prog (TpuEff nD τ sig (Elt F) Λ₀ .tc) PUnit := do
  let arg0 : BitVec 32 := BitVec.ofNat 32 (i 0).val
  let v0 : BitVec 32 := Scalar.remsi arg0 2#32
  let ⟨v10, v12, v14, v47, v48⟩ : Σ' (v10 : FVec F S1024x128 .f32) (v12 : FVec F S2048x64 .f32) (v14 : FVec F S16x128 .f32) (v47 : FVec F S2048x128 .f32), FVec F S64x128 .f32 ← k0_part1 i arg1 harg1 arg2 harg2 arg3 harg3 arg4 harg4 arg5 harg5 arg6 harg6
  let ⟨v95, v96⟩ : Σ' (v95 : FVec F S2048x128 .f32), FVec F S64x128 .f32 ← k0_part2 i arg1 harg1 arg2 harg2 arg3 harg3 arg4 harg4 arg5 harg5 arg6 harg6 v10 v12 v14 v47 v48
  let v143 : FVec F S2048x128 .f32 ← k0_part3 i arg1 harg1 arg2 harg2 arg3 harg3 arg4 harg4 arg5 harg5 arg6 harg6 v0 v10 v12 v14 v95 v96
  let v145 : Vec F S1x2048x128 .f32 ← Prog.lift (.load arg6 (Rect.unit (s := S2x2048x128) (k0_off1 i) S1x2048x128.size (k0_off1_inb i k0_h1)).toLoadRect (View.loadsAt_vmem h_S1x2048x128))
  Prog.lift (.store arg6 (Rect.unit (s := S2x2048x128) (k0_off1 i) S1x2048x128.size (k0_off1_inb i k0_h1)) (k0_pay1 v143) Finset.univ (View.stores_vmem_bits_univ h_S1x2048x128 rfl) (.inl rfl))
  pure ⟨⟩

/-- The sort's arm: the scores in the other slot sorted, and the first 512 positions of each column stored. -/
def sortArm (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (k0_h2 : k0_cond2 i = 1#1) : Prog (TpuEff nD τ sig (Elt F) Λ₀ .tc) PUnit := do
  let arg0 : BitVec 32 := BitVec.ofNat 32 (i 0).val
  let v0 : BitVec 32 := Scalar.remsi arg0 2#32
  let ⟨v10, v11, v1663, v1667, v3320, v3324, v3327, v3330, v3410, v3412, v3414, v3416, v3421, v3422⟩ : Σ' (v10 : FVec F S2048x128 .f32) (v11 : IVec S2048x128 32) (v1663 : FVec F S512x128 .f32) (v1667 : IVec S512x128 32) (v3320 : FVec F S512x128 .f32) (v3324 : IVec S512x128 32) (v3327 : IVec S512x1 32) (v3330 : IVec S512x1 1) (v3410 : FVec F S1x256x128 .f32) (v3412 : FVec F S1x256x128 .f32) (v3414 : IVec S1x256x128 32) (v3416 : IVec S1x256x128 32) (v3421 : IVec S1x256x128 1), IVec S1x2x256x1 1 ← k0_part142 i arg1 harg1 arg2 harg2 arg3 harg3 arg4 harg4 arg5 harg5 arg6 harg6 v0 k0_h2
  let ⟨v4976, v4980, v6633, v6637, v6822, v6823, v6824⟩ : Σ' (v4976 : FVec F S512x128 .f32) (v4980 : IVec S512x128 32) (v6633 : FVec F S512x128 .f32) (v6637 : IVec S512x128 32) (v6822 : FVec F S32x2x8x128 .f32) (v6823 : IVec S32x2x8x128 32), FVec F S32x1x8x128 .f32 ← k0_part143 i arg1 harg1 arg2 harg2 arg3 harg3 arg4 harg4 arg5 harg5 arg6 harg6 v10 v11 v1663 v1667 v3320 v3324 v3327 v3330 v3410 v3412 v3414 v3416 v3421 v3422
  let ⟨v6879, v6881, v6882⟩ : Σ' (v6879 : IVec S8x2x32x128 32) (v6881 : FVec F S8x32x128 .f32), FVec F S8x1x32x128 .f32 ← k0_part124 i arg1 harg1 arg2 harg2 arg3 harg3 arg4 harg4 arg5 harg5 arg6 harg6 v6822 v6823 v6824
  let ⟨v6935, v6937, v6939, v6940⟩ : Σ' (v6935 : IVec S2x2x128x128 32) (v6937 : FVec F S2x128x128 .f32) (v6939 : FVec F S2x128x128 .f32), IVec S2x1x128x128 32 ← k0_part125 i arg1 harg1 arg2 harg2 arg3 harg3 arg4 harg4 arg5 harg5 arg6 harg6 v6879 v6881 v6882
  let ⟨v6985, v6989, v6995, v6996, v6997, c0_i32_382⟩ : Σ' (v6985 : FVec F S512x128 .f32) (v6989 : IVec S512x128 32) (v6995 : FVec F S512x128 .f32) (v6996 : IVec S512x128 32) (v6997 : IVec S512x1 32), BitVec 32 ← k0_part126 i arg1 harg1 arg2 harg2 arg3 harg3 arg4 harg4 arg5 harg5 arg6 harg6 v4976 v4980 v6633 v6637 v6935 v6937 v6939 v6940
  let ⟨v6999, v7028, v7037, v7046, v7047, v7048⟩ : Σ' (v6999 : IVec S512x1 1) (v7028 : IVec S512x1 1) (v7037 : FVec F S512x128 .f32) (v7046 : IVec S512x128 32) (v7047 : IVec S512x128 1), IVec S512x128 1 ← k0_part127 i arg1 harg1 arg2 harg2 arg3 harg3 arg4 harg4 arg5 harg5 arg6 harg6 v6995 v6996 v6997 c0_i32_382
  let ⟨v7057, v7058, v7061, v7090, v7093, v7096, v7097⟩ : Σ' (v7057 : FVec F S512x128 .f32) (v7058 : IVec S512x128 32) (v7061 : IVec S512x1 1) (v7090 : IVec S512x1 1) (v7093 : FVec F S512x128 .f32) (v7096 : FVec F S512x128 .f32), IVec S512x1 1 ← k0_part128 i arg1 harg1 arg2 harg2 arg3 harg3 arg4 harg4 arg5 harg5 arg6 harg6 v6995 v6996 v6999 v7028 v7037 v7046 v7047 v7048
  let ⟨v7119, v7120, v7123, v7148⟩ : Σ' (v7119 : FVec F S512x128 .f32) (v7120 : IVec S512x128 32) (v7123 : IVec S512x1 1), IVec S512x1 32 ← k0_part129 i arg1 harg1 arg2 harg2 arg3 harg3 arg4 harg4 arg5 harg5 arg6 harg6 v7057 v7058 v7061 v7090 v7093 v7096 v7097
  let ⟨v7189, v7191, v7193, v7195, v7200, v7204⟩ : Σ' (v7189 : FVec F S32x8x128 .f32) (v7191 : FVec F S32x8x128 .f32) (v7193 : IVec S32x8x128 32) (v7195 : IVec S32x8x128 32) (v7200 : IVec S32x8x128 1), IVec S32x8x128 1 ← k0_part130 i arg1 harg1 arg2 harg2 arg3 harg3 arg4 harg4 arg5 harg5 arg6 harg6 v7119 v7120 v7123 v7148
  let ⟨v7255, v7257, v7259, v7261, v7262⟩ : Σ' (v7255 : IVec S512x1 1) (v7257 : IVec S8x2x32x128 32) (v7259 : FVec F S8x32x128 .f32) (v7261 : FVec F S8x32x128 .f32), IVec S8x1x32x128 32 ← k0_part131 i arg1 harg1 arg2 harg2 arg3 harg3 arg4 harg4 arg5 harg5 arg6 harg6 v7189 v7191 v7193 v7195 v7200 v7204
  let ⟨v7318, v7321⟩ : Σ' (v7318 : FVec F S512x128 .f32), IVec S4x2x64x128 32 ← k0_part132 i arg1 harg1 arg2 harg2 arg3 harg3 arg4 harg4 arg5 harg5 arg6 harg6 v7255 v7257 v7259 v7261 v7262
  let ⟨v7364, v7366, v7368, v7370, v7375, v7379⟩ : Σ' (v7364 : FVec F S1x256x128 .f32) (v7366 : FVec F S1x256x128 .f32) (v7368 : IVec S1x256x128 32) (v7370 : IVec S1x256x128 32) (v7375 : IVec S1x256x128 1), IVec S1x256x128 1 ← k0_part133 i arg1 harg1 arg2 harg2 arg3 harg3 arg4 harg4 arg5 harg5 arg6 harg6 v7318 v7321
  let ⟨v7398, v7399, v7428, v7429, v7430⟩ : Σ' (v7398 : FVec F S512x128 .f32) (v7399 : IVec S512x128 32) (v7428 : IVec S512x1 1) (v7429 : FVec F S511x128 .f32), FVec F S1x128 .f32 ← k0_part134 i arg1 harg1 arg2 harg2 arg3 harg3 arg4 harg4 arg5 harg5 arg6 harg6 v6985 v6989 v7364 v7366 v7368 v7370 v7375 v7379
  let ⟨v7457, v7458, v7461, v7480, v7481⟩ : Σ' (v7457 : FVec F S512x128 .f32) (v7458 : IVec S512x128 32) (v7461 : IVec S512x1 32) (v7480 : IVec S512x1 1), IVec S512x1 32 ← k0_part135 i arg1 harg1 arg2 harg2 arg3 harg3 arg4 harg4 arg5 harg5 arg6 harg6 v7398 v7399 v7428 v7429 v7430
  let ⟨v7516, v7517, v7518, c4_i32_443, v7520, v7527, v7532⟩ : Σ' (v7516 : FVec F S512x128 .f32) (v7517 : IVec S512x128 32) (v7518 : IVec S512x1 32) (c4_i32_443 : BitVec 32) (v7520 : IVec S512x1 32) (v7527 : IVec S512x1 32), BitVec 32 ← k0_part136 i arg1 harg1 arg2 harg2 arg3 harg3 arg4 harg4 arg5 harg5 arg6 harg6 v7457 v7458 v7461 v7480 v7481
  let ⟨v7580, v7582, v7584, v7586⟩ : Σ' (v7580 : FVec F S32x8x128 .f32) (v7582 : FVec F S32x8x128 .f32) (v7584 : IVec S32x8x128 32), IVec S32x8x128 32 ← k0_part137 i arg1 harg1 arg2 harg2 arg3 harg3 arg4 harg4 arg5 harg5 arg6 harg6 v7516 v7517 v7518 c4_i32_443 v7520 v7527 v7532
  let ⟨v7636, v7638, v7640, v7642, v7643, v7644⟩ : Σ' (v7636 : FVec F S8x32x128 .f32) (v7638 : FVec F S8x32x128 .f32) (v7640 : IVec S8x32x128 32) (v7642 : IVec S8x32x128 32) (v7643 : IVec S8x32x128 1), IVec S8x32x128 1 ← k0_part138 i arg1 harg1 arg2 harg2 arg3 harg3 arg4 harg4 arg5 harg5 arg6 harg6 v7580 v7582 v7584 v7586
  let ⟨v7692, v7694, v7696, v7698, v7699, v7702⟩ : Σ' (v7692 : FVec F S2x128x128 .f32) (v7694 : FVec F S2x128x128 .f32) (v7696 : IVec S2x128x128 32) (v7698 : IVec S2x128x128 32) (v7699 : IVec S2x128x128 1), IVec S2x128x128 1 ← k0_part139 i arg1 harg1 arg2 harg2 arg3 harg3 arg4 harg4 arg5 harg5 arg6 harg6 v7636 v7638 v7640 v7642 v7643 v7644
  let ⟨v7738, v7739, v7747, v7753⟩ : Σ' (v7738 : IVec S512x128 32) (v7739 : IVec S512x1 32) (v7747 : IVec S512x1 32), IVec S512x1 32 ← k0_part140 i arg1 harg1 arg2 harg2 arg3 harg3 arg4 harg4 arg5 harg5 arg6 harg6 v7692 v7694 v7696 v7698 v7699 v7702
  let ⟨v7789, v7795⟩ : Σ' (v7789 : IVec S512x1 32), IVec S512x1 32 ← k0_part141 i arg1 harg1 arg2 harg2 arg3 harg3 arg4 harg4 arg5 harg5 arg6 harg6 v7739 v7747 v7753
  let v7814 : Vec F S512x128 .i32 ← Prog.lift (.load arg5 (Rect.unit (s := S512x128) ![0, 0] S512x128.size inb_S512x128_S512x128_0_0).toLoadRect (View.loadsAt_vmem h_S512x128))
  Prog.lift (.store arg5 (Rect.unit (s := S512x128) ![0, 0] S512x128.size inb_S512x128_S512x128_0_0) (k0_pay2 (F := F) v7738 v7739 v7789 v7795) Finset.univ (View.stores_vmem_bits_univ h_S512x128 rfl) (.inl rfl))
  pure ⟨⟩

/-- The body is the scores' arm where its condition holds, then the sort's where its own does. -/
theorem body_eq (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole) :
    cc0__fused_kernel (F := F) i arg1 harg1 arg2 harg2 arg3 harg3 arg4 harg4 arg5 harg5 arg6 harg6
      = (do
          if h1 : k0_cond1 i = 1#1 then scoreArm i arg1 harg1 arg2 harg2 arg3 harg3 arg4 harg4 arg5 harg5 arg6 harg6 h1 else pure ⟨⟩
          if h2 : k0_cond2 i = 1#1 then sortArm i arg1 harg1 arg2 harg2 arg3 harg3 arg4 harg4 arg5 harg5 arg6 harg6 h2 else pure ⟨⟩
          pure ⟨⟩) := by
  rw [cc0__fused_kernel_eq_skeleton]
  unfold cc0__fused_kernel_skel scoreArm sortArm
  by_cases h1 : k0_cond1 i = 1#1 <;> by_cases h2 : k0_cond2 i = 1#1 <;>
    simp only [dif_pos, dif_neg, h1, h2, not_false_eq_true, bind_assoc, pure_bind]

end Cert.KernelIdeal.Hand

end
-- ==== Proof.Net.lean ====
/- The sorting network of one column, as functions on whole blocks: one definition for each kind of exchange the sort's arm
   makes, the levels that repeat them, and the sort and merges built of the levels. -/
module

public import proofs.«01_k».proof.Proof.Arms

@[expose] public section

noncomputable section

namespace Cert.KernelIdeal.Hand

open Cert.KernelIdeal Cert.KernelIdeal.Gen
open Idealize.ShloMosaic Idealize.ShloMosaic.TcCoe

variable {F : FTy → Type} [FloatOps F]

/-- The two arrays the network moves together: 512 keys a column and the row each came from. -/
abbrev St (F : FTy → Type) [FloatOps F] := FVec F S512x128 .f32 × IVec S512x128 32

/-- Which of two entries goes first: the greater key, of equal keys the smaller index. -/
def beats {s : Shape} (va vb : FVec F s .f32) (ia ib : IVec s 32) : IVec s 1 :=
  ori (cmpf .ogt va vb) (andi (cmpf .oeq va vb) (cmpi .slt ia ib))

/-- The four-axis form of a block for an exchange at row distance `d`, cut into `o` groups. -/
abbrev Sh4 (o n d l : Nat) : Shape := ⟨4, ![o, n, d, l]⟩
/-- One side of such an exchange. -/
abbrev Sh3 (o d l : Nat) : Shape := ⟨3, ![o, d, l]⟩

/-- The shape relations an exchange between row halves takes. -/
structure HiFacts (o d : Nat) : Prop where
  c24 : S512x128.ShapeCasts (Sh4 o 2 d 128)
  c42 : (Sh4 o 2 d 128).ShapeCasts S512x128
  s0 : (Sh4 o 2 d 128).Slices ![0, 0, 0, 0] (Sh4 o 1 d 128)
  s1 : (Sh4 o 2 d 128).Slices ![0, 1, 0, 0] (Sh4 o 1 d 128)
  c43 : (Sh4 o 1 d 128).ShapeCasts (Sh3 o d 128)
  c34 : (Sh3 o d 128).ShapeCasts (Sh4 o 1 d 128)
  cc : Shape.Concatenates [Sh4 o 1 d 128, Sh4 o 1 d 128] (Sh4 o 2 d 128) 1

/-- The shape relations that spread a per-row flag over one side of such an exchange. -/
structure HiMask (o d : Nat) : Prop where
  m1 : S512x1.ShapeCasts (Sh4 o 2 d 1)
  m2 : (Sh4 o 2 d 1).Slices ![0, 0, 0, 0] (Sh4 o 1 d 1)
  m3 : (Sh4 o 1 d 1).ShapeCasts (Sh3 o d 1)
  m4 : (Sh3 o d 1).Broadcasts (Sh3 o d 128)

/-- The first (`b = 0`) or second side of an exchange. -/
def side0 {α : Type} {o d : Nat} (h : HiFacts o d) (x : S512x128.Idx → α) : (Sh3 o d 128).Idx → α :=
  shapeCast (Sh3 o d 128) (extractStridedSlice (Sh4 o 1 d 128) ![0, 0, 0, 0] (shapeCast (Sh4 o 2 d 128) x h.c24) h.s0) h.c43
def side1 {α : Type} {o d : Nat} (h : HiFacts o d) (x : S512x128.Idx → α) : (Sh3 o d 128).Idx → α :=
  shapeCast (Sh3 o d 128) (extractStridedSlice (Sh4 o 1 d 128) ![0, 1, 0, 0] (shapeCast (Sh4 o 2 d 128) x h.c24) h.s1) h.c43

/-- The two sides put back. -/
def sides {α : Type} {o d : Nat} (h : HiFacts o d) (a b : (Sh3 o d 128).Idx → α) : S512x128.Idx → α :=
  shapeCast S512x128 (concatenate (Sh4 o 2 d 128) 1 [⟨Sh4 o 1 d 128, shapeCast (Sh4 o 1 d 128) a h.c34⟩,
    ⟨Sh4 o 1 d 128, shapeCast (Sh4 o 1 d 128) b h.c34⟩] h.cc) h.c42

/-- An exchange between row halves: the sides trade places where `flip` differs from the comparison. -/
def hiStep {o d : Nat} (h : HiFacts o d) (flip : IVec (Sh3 o d 128) 1) (x : St F) : St F :=
  (sides h (select (xori (beats (side0 h x.1) (side1 h x.1) (side0 h x.2) (side1 h x.2)) flip) (side1 h x.1) (side0 h x.1))
     (select (xori (beats (side0 h x.1) (side1 h x.1) (side0 h x.2) (side1 h x.2)) flip) (side0 h x.1) (side1 h x.1)),
   sides h (select (xori (beats (side0 h x.1) (side1 h x.1) (side0 h x.2) (side1 h x.2)) flip) (side1 h x.2) (side0 h x.2))
     (select (xori (beats (side0 h x.1) (side1 h x.1) (side0 h x.2) (side1 h x.2)) flip) (side0 h x.2) (side1 h x.2)))

/-- A per-row flag spread over one side. -/
def hiFlip {o d : Nat} (m : HiMask o d) (desc : IVec S512x1 1) : IVec (Sh3 o d 128) 1 :=
  broadcastTo (Sh3 o d 128) (shapeCast (Sh3 o d 1) (extractStridedSlice (Sh4 o 1 d 1) ![0, 0, 0, 0]
    (shapeCast (Sh4 o 2 d 1) desc m.m1) m.m2) m.m3) m.m4

/-- The flag set everywhere. -/
def hiOnes (o d : Nat) : IVec (Sh3 o d 128) 1 := constantI (Sh3 o d 128) 1 1#1

/-- The shape relations of an exchange by rolling the rows `d` (`e = 512 - d`) up and down. -/
structure LoFacts (d e : Nat) : Prop where
  sa : S512x128.Slices ![d, 0] ⟨2, ![e, 128]⟩
  sb : S512x128.Slices ![0, 0] ⟨2, ![d, 128]⟩
  sc : S512x128.Slices ![e, 0] ⟨2, ![d, 128]⟩
  sd : S512x128.Slices ![0, 0] ⟨2, ![e, 128]⟩
  ca : Shape.Concatenates [⟨2, ![e, 128]⟩, ⟨2, ![d, 128]⟩] S512x128 0
  cb : Shape.Concatenates [⟨2, ![d, 128]⟩, ⟨2, ![e, 128]⟩] S512x128 0

/-- The row numbers of a column. -/
def rowIota : IVec S512x1 32 := iota .tc S512x1 32 [0] iota_S512x1_d0_w32

/-- The row numbers divided by `d`, rounding down. -/
def floorDiv (d : BitVec 32) : IVec S512x1 32 :=
  select
    (andi
      (cmpi .ne (subi (extui 32 (cmpi .sgt rowIota (broadcast S512x1 0#32)) natLt_1_32)
          (extui 32 (cmpi .slt rowIota (broadcast S512x1 0#32)) natLt_1_32))
        (broadcast S512x1 1#32))
      (cmpi .ne (remsi rowIota (broadcast S512x1 d)) (broadcast S512x1 0#32)))
    (subi (divsi rowIota (broadcast S512x1 d)) (broadcast S512x1 1#32)) (divsi rowIota (broadcast S512x1 d))

/-- Is this row the second of its pair at distance `d`? -/
def isSecond (d : BitVec 32) : IVec S512x1 1 :=
  cmpi .eq (andi (floorDiv d) (broadcast S512x1 1#32)) (broadcast S512x1 1#32)

/-- The entry each row is paired with: from `d` above for a second row, from `d` below for a first. -/
def rolled {α : Type} {d e : Nat} (h : LoFacts d e) (t : IVec S512x1 1) (x : S512x128.Idx → α) : S512x128.Idx → α :=
  select (broadcastTo S512x128 (shapeCast S512x1 t shapeCasts_S512x1_S512x1) broadcasts_S512x1_S512x128)
    (concatenate S512x128 0 [⟨⟨2, ![d, 128]⟩, extractStridedSlice ⟨2, ![d, 128]⟩ ![e, 0] x h.sc⟩,
      ⟨⟨2, ![e, 128]⟩, extractStridedSlice ⟨2, ![e, 128]⟩ ![0, 0] x h.sd⟩] h.cb)
    (concatenate S512x128 0 [⟨⟨2, ![e, 128]⟩, extractStridedSlice ⟨2, ![e, 128]⟩ ![d, 0] x h.sa⟩,
      ⟨⟨2, ![d, 128]⟩, extractStridedSlice ⟨2, ![d, 128]⟩ ![0, 0] x h.sb⟩] h.ca)

/-- Which rows keep their own entry in an exchange by rolling. -/
def loSel {d e : Nat} (h : LoFacts d e) (t keep : IVec S512x1 1) (x : St F) : IVec S512x128 1 :=
  xori (xori (beats x.1 (rolled h t x.1) x.2 (rolled h t x.2))
    (broadcastTo S512x128 (broadcastTo S512x128 keep broadcasts_S512x1_S512x128) broadcasts_S512x128_S512x128))
    (constantI S512x128 1 1#1)

/-- An exchange by rolling: a row keeps its own entry where the comparison and `keep` agree. -/
def loStep {d e : Nat} (h : LoFacts d e) (t keep : IVec S512x1 1) (x : St F) : St F :=
  (select (loSel h t keep x) x.1 (rolled h t x.1), select (loSel h t keep x) x.2 (rolled h t x.2))

/-- The direction of a level: `none` for one run of the whole column downwards, a flag for each row otherwise. -/
abbrev Dir := Option (IVec S512x1 1)

/-- The flag of the rolling exchange. -/
def loKeep (d : BitVec 32) : Dir → IVec S512x1 1
  | none => xori (isSecond d) (constantI S512x1 1 1#1)
  | some desc => xori desc (isSecond d)

/-- The flag of the exchange between halves. -/
def hiKeep {o d : Nat} (m : HiMask o d) : Dir → IVec (Sh3 o d 128) 1
  | none => hiOnes o d
  | some desc => hiFlip m desc

theorem hi256 : HiFacts 1 256 := ⟨shapeCasts_S512x128_S1x2x256x128, shapeCasts_S1x2x256x128_S512x128, slices_S1x2x256x128_o0_0_0_0_S1x1x256x128, slices_S1x2x256x128_o0_1_0_0_S1x1x256x128, shapeCasts_S1x1x256x128_S1x256x128, shapeCasts_S1x256x128_S1x1x256x128, concatenates_S1x1x256x128_S1x1x256x128_S1x2x256x128_d1⟩
theorem hi128 : HiFacts 2 128 := ⟨shapeCasts_S512x128_S2x2x128x128, shapeCasts_S2x2x128x128_S512x128, slices_S2x2x128x128_o0_0_0_0_S2x1x128x128, slices_S2x2x128x128_o0_1_0_0_S2x1x128x128, shapeCasts_S2x1x128x128_S2x128x128, shapeCasts_S2x128x128_S2x1x128x128, concatenates_S2x1x128x128_S2x1x128x128_S2x2x128x128_d1⟩
theorem hi64 : HiFacts 4 64 := ⟨shapeCasts_S512x128_S4x2x64x128, shapeCasts_S4x2x64x128_S512x128, slices_S4x2x64x128_o0_0_0_0_S4x1x64x128, slices_S4x2x64x128_o0_1_0_0_S4x1x64x128, shapeCasts_S4x1x64x128_S4x64x128, shapeCasts_S4x64x128_S4x1x64x128, concatenates_S4x1x64x128_S4x1x64x128_S4x2x64x128_d1⟩
theorem hi32 : HiFacts 8 32 := ⟨shapeCasts_S512x128_S8x2x32x128, shapeCasts_S8x2x32x128_S512x128, slices_S8x2x32x128_o0_0_0_0_S8x1x32x128, slices_S8x2x32x128_o0_1_0_0_S8x1x32x128, shapeCasts_S8x1x32x128_S8x32x128, shapeCasts_S8x32x128_S8x1x32x128, concatenates_S8x1x32x128_S8x1x32x128_S8x2x32x128_d1⟩
theorem hi16 : HiFacts 16 16 := ⟨shapeCasts_S512x128_S16x2x16x128, shapeCasts_S16x2x16x128_S512x128, slices_S16x2x16x128_o0_0_0_0_S16x1x16x128, slices_S16x2x16x128_o0_1_0_0_S16x1x16x128, shapeCasts_S16x1x16x128_S16x16x128, shapeCasts_S16x16x128_S16x1x16x128, concatenates_S16x1x16x128_S16x1x16x128_S16x2x16x128_d1⟩
theorem hi8 : HiFacts 32 8 := ⟨shapeCasts_S512x128_S32x2x8x128, shapeCasts_S32x2x8x128_S512x128, slices_S32x2x8x128_o0_0_0_0_S32x1x8x128, slices_S32x2x8x128_o0_1_0_0_S32x1x8x128, shapeCasts_S32x1x8x128_S32x8x128, shapeCasts_S32x8x128_S32x1x8x128, concatenates_S32x1x8x128_S32x1x8x128_S32x2x8x128_d1⟩
theorem hm256 : HiMask 1 256 := ⟨shapeCasts_S512x1_S1x2x256x1, slices_S1x2x256x1_o0_0_0_0_S1x1x256x1, shapeCasts_S1x1x256x1_S1x256x1, broadcasts_S1x256x1_S1x256x128⟩
theorem hm128 : HiMask 2 128 := ⟨shapeCasts_S512x1_S2x2x128x1, slices_S2x2x128x1_o0_0_0_0_S2x1x128x1, shapeCasts_S2x1x128x1_S2x128x1, broadcasts_S2x128x1_S2x128x128⟩
theorem hm64 : HiMask 4 64 := ⟨shapeCasts_S512x1_S4x2x64x1, slices_S4x2x64x1_o0_0_0_0_S4x1x64x1, shapeCasts_S4x1x64x1_S4x64x1, broadcasts_S4x64x1_S4x64x128⟩
theorem hm32 : HiMask 8 32 := ⟨shapeCasts_S512x1_S8x2x32x1, slices_S8x2x32x1_o0_0_0_0_S8x1x32x1, shapeCasts_S8x1x32x1_S8x32x1, broadcasts_S8x32x1_S8x32x128⟩
theorem hm16 : HiMask 16 16 := ⟨shapeCasts_S512x1_S16x2x16x1, slices_S16x2x16x1_o0_0_0_0_S16x1x16x1, shapeCasts_S16x1x16x1_S16x16x1, broadcasts_S16x16x1_S16x16x128⟩
theorem hm8 : HiMask 32 8 := ⟨shapeCasts_S512x1_S32x2x8x1, slices_S32x2x8x1_o0_0_0_0_S32x1x8x1, shapeCasts_S32x1x8x1_S32x8x1, broadcasts_S32x8x1_S32x8x128⟩
theorem lo4 : LoFacts 4 508 := ⟨slices_S512x128_o4_0_S508x128, slices_S512x128_o0_0_S4x128, slices_S512x128_o508_0_S4x128, slices_S512x128_o0_0_S508x128, concatenates_S508x128_S4x128_S512x128_d0, concatenates_S4x128_S508x128_S512x128_d0⟩
theorem lo2 : LoFacts 2 510 := ⟨slices_S512x128_o2_0_S510x128, slices_S512x128_o0_0_S2x128, slices_S512x128_o510_0_S2x128, slices_S512x128_o0_0_S510x128, concatenates_S510x128_S2x128_S512x128_d0, concatenates_S2x128_S510x128_S512x128_d0⟩
theorem lo1 : LoFacts 1 511 := ⟨slices_S512x128_o1_0_S511x128, slices_S512x128_o0_0_S1x128, slices_S512x128_o511_0_S1x128, slices_S512x128_o0_0_S511x128, concatenates_S511x128_S1x128_S512x128_d0, concatenates_S1x128_S511x128_S512x128_d0⟩

/-- The exchange at logical distance `2^a`, that is at row distance `2^(8-a)`. -/
def sub : Nat → Dir → St F → St F
  | 0, r => hiStep hi256 (hiKeep hm256 r)
  | 1, r => hiStep hi128 (hiKeep hm128 r)
  | 2, r => hiStep hi64 (hiKeep hm64 r)
  | 3, r => hiStep hi32 (hiKeep hm32 r)
  | 4, r => hiStep hi16 (hiKeep hm16 r)
  | 5, r => hiStep hi8 (hiKeep hm8 r)
  | 6, r => loStep lo4 (isSecond 4#32) (loKeep 4#32 r)
  | 7, r => loStep lo2 (isSecond 2#32) (loKeep 2#32 r)
  | _, r => loStep lo1 (isSecond 1#32) (loKeep 1#32 r)

/-- A level: the exchanges at distances `2^(k-1)` down to `1`. -/
def level : Nat → Dir → St F → St F
  | 0, _, x => x
  | k + 1, r, x => level k r (sub k r x)

/-- The direction of the rows at level `k`. -/
def descAt (k : Nat) : IVec S512x1 1 :=
  cmpi .eq (andi (shrsi rowIota (broadcast S512x1 (BitVec.ofNat 32 (8 - k)))) (broadcast S512x1 1#32)) (broadcast S512x1 0#32)

/-- Every row's flag set, and none. -/
def allRows : IVec S512x1 1 := cmpi .sgt (broadcast S512x1 1#32) (broadcast S512x1 0#32)
def noRows : IVec S512x1 1 := xori allRows (constantI S512x1 1 1#1)
def noRows' : IVec S512x1 1 := cmpi .slt rowIota (broadcast S512x1 0#32)

/-- The levels `1` to `k` of a sort. -/
def levels : Nat → St F → St F
  | 0, x => x
  | k + 1, x => level (k + 1) (some (descAt (k + 1))) (levels k x)

/-- One chunk of 512 rows sorted, all the way as `last` says. -/
def sortChunk (last : IVec S512x1 1) (x : St F) : St F := level 9 (some last) (levels 8 x)

/-- The first of two entries, at every position. -/
def first (a b : St F) : St F :=
  (select (beats a.1 b.1 a.2 b.2) a.1 b.1, select (beats a.1 b.1 a.2 b.2) a.2 b.2)

/-- The 512 rows of the scores from `off` on, with their row numbers. -/
def chunk (L : Vec F S1x2048x128 .f32) (off : Nat) (h : S2048x128.Slices ![off, 0] S512x128) : St F :=
  (extractStridedSlice S512x128 ![off, 0] (shapeCast S2048x128 L shapeCasts_S1x2048x128_S2048x128) h,
   extractStridedSlice S512x128 ![off, 0] (iota .tc S2048x128 32 [0] iota_S2048x128_d0_w32) h)

/-- The network over a whole block of scores: four chunks sorted in alternate directions, their firsts merged in pairs. -/
def net (L : Vec F S1x2048x128 .f32) : St F :=
  level 9 none
    (first
      (level 9 none (first (sortChunk allRows (chunk L 0 slices_S2048x128_o0_0_S512x128))
        (sortChunk noRows (chunk L 512 slices_S2048x128_o512_0_S512x128))))
      (level 9 (some noRows') (first (sortChunk allRows (chunk L 1024 slices_S2048x128_o1024_0_S512x128))
        (sortChunk noRows (chunk L 1536 slices_S2048x128_o1536_0_S512x128)))))

/-- The sorted indices brought to their places: row `j` of the block is the entry of rank `j`. -/
def readout (idx : IVec S512x128 32) : IVec S512x128 32 :=
  k0_pay2 (F := F) idx rowIota (k0_pay1709 rowIota k0_pay1707 k0_pay1708) (k0_pay1710 rowIota)

section Unfolding
theorem sgt_4 : Scalar.cmpi .sgt 4#32 0#32 = 1#1 := rfl
theorem slt_4 : Scalar.cmpi .slt 4#32 0#32 = 0#1 := rfl
theorem sgt_2 : Scalar.cmpi .sgt 2#32 0#32 = 1#1 := rfl
theorem slt_2 : Scalar.cmpi .slt 2#32 0#32 = 0#1 := rfl
theorem sgt_1 : Scalar.cmpi .sgt 1#32 0#32 = 1#1 := rfl
theorem slt_1 : Scalar.cmpi .slt 1#32 0#32 = 0#1 := rfl
theorem extui_1 : (Scalar.extui 1#1 : BitVec 32) = 1#32 := rfl
theorem extui_0 : (Scalar.extui 0#1 : BitVec 32) = 0#32 := rfl
theorem subi_1_0 : Scalar.subi 1#32 0#32 = 1#32 := rfl
variable (r : Dir) (x : St F) (desc : IVec S512x1 1) (d : BitVec 32)
theorem hiKeep_none {o e : Nat} (m : HiMask o e) : hiKeep m none = hiOnes o e := rfl
theorem hiKeep_some {o e : Nat} (m : HiMask o e) : hiKeep m (some desc) = hiFlip m desc := rfl
theorem loKeep_none : loKeep d none = xori (isSecond d) (constantI S512x1 1 1#1) := rfl
theorem loKeep_some : loKeep d (some desc) = xori desc (isSecond d) := rfl
theorem sub_0 : sub 0 r x = hiStep hi256 (hiKeep hm256 r) x := rfl
theorem sub_1 : sub 1 r x = hiStep hi128 (hiKeep hm128 r) x := rfl
theorem sub_2 : sub 2 r x = hiStep hi64 (hiKeep hm64 r) x := rfl
theorem sub_3 : sub 3 r x = hiStep hi32 (hiKeep hm32 r) x := rfl
theorem sub_4 : sub 4 r x = hiStep hi16 (hiKeep hm16 r) x := rfl
theorem sub_5 : sub 5 r x = hiStep hi8 (hiKeep hm8 r) x := rfl
theorem sub_6 : sub 6 r x = loStep lo4 (isSecond 4#32) (loKeep 4#32 r) x := rfl
theorem sub_7 : sub 7 r x = loStep lo2 (isSecond 2#32) (loKeep 2#32 r) x := rfl
theorem sub_8 : sub 8 r x = loStep lo1 (isSecond 1#32) (loKeep 1#32 r) x := rfl
theorem level_1 : level 1 r x = sub 0 r x := rfl
theorem level_2 : level 2 r x = level 1 r (sub 1 r x) := rfl
theorem level_3 : level 3 r x = level 2 r (sub 2 r x) := rfl
theorem level_4 : level 4 r x = level 3 r (sub 3 r x) := rfl
theorem level_5 : level 5 r x = level 4 r (sub 4 r x) := rfl
theorem level_6 : level 6 r x = level 5 r (sub 5 r x) := rfl
theorem level_7 : level 7 r x = level 6 r (sub 6 r x) := rfl
theorem level_8 : level 8 r x = level 7 r (sub 7 r x) := rfl
theorem level_9 : level 9 r x = level 8 r (sub 8 r x) := rfl
theorem levels_1 : levels 1 x = level 1 (some (descAt 1)) x := rfl
theorem levels_2 : levels 2 x = level 2 (some (descAt 2)) (levels 1 x) := rfl
theorem levels_3 : levels 3 x = level 3 (some (descAt 3)) (levels 2 x) := rfl
theorem levels_4 : levels 4 x = level 4 (some (descAt 4)) (levels 3 x) := rfl
theorem levels_5 : levels 5 x = level 5 (some (descAt 5)) (levels 4 x) := rfl
theorem levels_6 : levels 6 x = level 6 (some (descAt 6)) (levels 5 x) := rfl
theorem levels_7 : levels 7 x = level 7 (some (descAt 7)) (levels 6 x) := rfl
theorem levels_8 : levels 8 x = level 8 (some (descAt 8)) (levels 7 x) := rfl
end Unfolding

end Cert.KernelIdeal.Hand

end
-- ==== Proof.SortRun.lean ====
/- The sort's arm run: what it stores is a function of the scratch it finds. -/
module

public import proofs.«01_k».proof.Proof.Arms
public import Idealize.ShloMosaic.Lib.VecWindow

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.resultNames true in
set_option maxHeartbeats 4000000 in
/-- The sort's arm, run: it finds the scratch at `x5`, leaves it so, and leaves the output's staging buffer at the value found here. -/
def runSort (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (hc1 : k0_cond2 i = 1#1) (x5 : Vec F S2x2048x128 .f32) :
    { y : Vec F S512x128 .i32 // ∀ (E : Set ℕ) (K : PUnit → sProp 𝕄),
        iprop((∃ d, owns (c : Thread nD τ) arg5 fullShare d) ∗ owns (c : Thread nD τ) arg6 fullShare x5
            ∗ (iprop(owns (c : Thread nD τ) arg5 fullShare y ∗ owns (c : Thread nD τ) arg6 fullShare x5) -∗ K ⟨⟩))
          ⊢ wp frame (wpE (defs₀ (F := F)) Variants.none c none) E (sortArm i arg1 harg1 arg2 harg2 arg3 harg3 arg4 harg4 arg5 harg5 arg6 harg6 hc1) K } := by
  refine ⟨?y, ?run⟩
  rotate_left
  · intro E K
    unfold sortArm
    simp only [k0_part142_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part143_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton]
    unfold owns
    iintro ⟨⟨%d4, %f4, -, H4⟩, ⟨%fs0, %hs0, HS0⟩, Hk⟩
    obtain rfl := harg6.eq_unread hs0
    sl_exec
    sl_step
    iapply Hk
    isplitl [H4]
    · iexists _; isplitr; swap; · iexact H4
      ipureintro
      exact View.read_writes_full _ _ _ _ _
    iexists _; isplitr; swap; · iexact HS0
    ipureintro; exact harg6.read_unread _

end Cert.KernelIdeal.Hand

end
-- ==== Proof.Bridge.lean ====
/- What the sort's arm stores is the network's readout of the scores it loads. -/
module

public import proofs.«01_k».proof.Proof.Net
public import proofs.«01_k».proof.Proof.SortRun

@[expose] public section

set_option maxRecDepth 65536
set_option maxHeartbeats 4000000
noncomputable section

namespace Cert.KernelIdeal.Hand

open Cert.KernelIdeal Cert.KernelIdeal.Gen
open Idealize.ShloMosaic Idealize.ShloMosaic.TcCoe

variable {F : FTy → Type} [FloatOps F]

/-- The indices at the end of the arm's straight line of exchanges are those the network leaves. -/
theorem net_eq (c : Fin nD) (i : grid0.Coords) (arg6 : Memref sig .tc .vmem S2x2048x128 .f32) (harg6 : arg6.IsWhole)
    (hc1 : k0_cond2 i = 1#1) (x5 : Vec F S2x2048x128 .f32) :
    runSort.sl.r_62 c i arg6 harg6 hc1 x5 = (net (View.readAt (Elt F) arg6.view (Rect.unit (s := S2x2048x128) (k0_off2 i) S1x2048x128.size (k0_off2_inb i hc1)).toLoadRect (harg6.unread x5))).2 := by dsimp only [runSort.sl.r_62, runSort.sl.r_61, runSort.sl.r_55, runSort.sl.r_49, runSort.sl.v14, runSort.sl.r_45, runSort.sl.r_43, runSort.sl.r_41, runSort.sl.r_37, runSort.sl.r_32, runSort.sl.r_30, runSort.sl.r_26, runSort.sl.r_21, runSort.sl.r_19, runSort.sl.r_15, runSort.sl.r_9, runSort.sl.v6637, runSort.sl.v6617, runSort.sl.v6556, runSort.sl.v6497, runSort.sl.v6438, runSort.sl.v6386, runSort.sl.v6327, runSort.sl.v6267, runSort.sl.v6228, runSort.sl.v6168, runSort.sl.v6108, runSort.sl.v6049, runSort.sl.v5999, runSort.sl.v5951, runSort.sl.v5891, runSort.sl.v5831, runSort.sl.v5771, runSort.sl.v5694, runSort.sl.v5664, runSort.sl.v5604, runSort.sl.v5544, runSort.sl.v5487, runSort.sl.v5427, runSort.sl.v5367, runSort.sl.v5310, runSort.sl.v5249, runSort.sl.v5193, runSort.sl.v5133, runSort.sl.v5076, runSort.sl.v5019, runSort.sl.v11, runSort.sl.v10, runSort.sl.v5016, runSort.sl.v5015, runSort.sl.v5073, runSort.sl.v5072, runSort.sl.v5070, runSort.sl.v5068, runSort.sl.v5066, runSort.sl.v5132, runSort.sl.v5192, runSort.sl.v5188, runSort.sl.v5244, runSort.sl.v5242, runSort.sl.v5240, runSort.sl.v5238, runSort.sl.v5309, runSort.sl.v5308, runSort.sl.v5306, runSort.sl.v5304, runSort.sl.v5302, runSort.sl.v5364, runSort.sl.v5424, runSort.sl.v5423, runSort.sl.v5486, runSort.sl.v5485, runSort.sl.v5484, runSort.sl.v5474, runSort.sl.v5472, runSort.sl.v5542, runSort.sl.v5540, runSort.sl.v5538, runSort.sl.v5602, runSort.sl.v5600, runSort.sl.v5663, runSort.sl.v5690, runSort.sl.v5770, runSort.sl.v5769, runSort.sl.v5767, runSort.sl.v5765, runSort.sl.v5763, runSort.sl.v5829, runSort.sl.v5827, runSort.sl.v5825, runSort.sl.v5889, runSort.sl.v5888, runSort.sl.v5998, runSort.sl.v5997, runSort.sl.v5996, runSort.sl.v5995, runSort.sl.v5989, runSort.sl.v5988, runSort.sl.v5947, runSort.sl.v5987, runSort.sl.v5992, runSort.sl.v5991, runSort.sl.v5990, runSort.sl.v4338, runSort.sl.v4330, runSort.sl.v1063, runSort.sl.v4326, runSort.sl.v4303, runSort.sl.v1048, runSort.sl.v4325, runSort.sl.v4322, runSort.sl.v1051, runSort.sl.v1064, runSort.sl.v1056, runSort.sl.v1053, runSort.sl.v5955, runSort.sl.v6048, runSort.sl.v6016, runSort.sl.v6015, runSort.sl.v6107, runSort.sl.v6167, runSort.sl.v6163, runSort.sl.v6227, runSort.sl.v6226, runSort.sl.v6225, runSort.sl.v6263, runSort.sl.v6326, runSort.sl.v6385, runSort.sl.v6433, runSort.sl.v6424, runSort.sl.v6487, runSort.sl.v6485, runSort.sl.v6483, runSort.sl.v6481, runSort.sl.v6551, runSort.sl.v6549, runSort.sl.v6547, runSort.sl.v6545, runSort.sl.v6616, runSort.sl.v6615, runSort.sl.v6613, runSort.sl.v6633, runSort.sl.v6611, runSort.sl.v6609, runSort.sl.v4980, runSort.sl.v4963, runSort.sl.v4904, runSort.sl.v4844, runSort.sl.v4785, runSort.sl.v4729, runSort.sl.v4670, runSort.sl.v4611, runSort.sl.v4574, runSort.sl.v4514, runSort.sl.v4454, runSort.sl.v4395, runSort.sl.v4345, runSort.sl.v4344, runSort.sl.v4295, runSort.sl.v4237, runSort.sl.v4177, runSort.sl.v4117, runSort.sl.v4038, runSort.sl.v4010, runSort.sl.v3950, runSort.sl.v3890, runSort.sl.v3833, runSort.sl.v3773, runSort.sl.v3713, runSort.sl.v3656, runSort.sl.v3593, runSort.sl.v3539, runSort.sl.v3479, runSort.sl.v3421, runSort.sl.v3365, runSort.sl.v3364, runSort.sl.v3360, runSort.sl.v3416, runSort.sl.v3414, runSort.sl.v3412, runSort.sl.v3410, runSort.sl.v3478, runSort.sl.v3477, runSort.sl.v3536, runSort.sl.v3588, runSort.sl.v3586, runSort.sl.v3584, runSort.sl.v3582, runSort.sl.v3653, runSort.sl.v3652, runSort.sl.v3650, runSort.sl.v3648, runSort.sl.v3646, runSort.sl.v3712, runSort.sl.v3772, runSort.sl.v3768, runSort.sl.v3832, runSort.sl.v3831, runSort.sl.v3830, runSort.sl.v3889, runSort.sl.v3888, runSort.sl.v3886, runSort.sl.v3884, runSort.sl.v3882, runSort.sl.v3948, runSort.sl.v3946, runSort.sl.v3944, runSort.sl.v4008, runSort.sl.v4007, runSort.sl.v4034, runSort.sl.v4114, runSort.sl.v4113, runSort.sl.v4111, runSort.sl.v4109, runSort.sl.v4107, runSort.sl.v4175, runSort.sl.v4173, runSort.sl.v4171, runSort.sl.v4235, runSort.sl.v4233, runSort.sl.v4343, runSort.sl.v4342, runSort.sl.v4341, runSort.sl.v4340, runSort.sl.v4339, runSort.sl.v4333, runSort.sl.v4332, runSort.sl.v4291, runSort.sl.v4331, runSort.sl.v4336, runSort.sl.v4335, runSort.sl.v4334, runSort.sl.v4299, runSort.sl.v4392, runSort.sl.v4360, runSort.sl.v4359, runSort.sl.v4453, runSort.sl.v4452, runSort.sl.v4511, runSort.sl.v4571, runSort.sl.v4570, runSort.sl.v4607, runSort.sl.v4669, runSort.sl.v4728, runSort.sl.v4776, runSort.sl.v4767, runSort.sl.v4843, runSort.sl.v4842, runSort.sl.v4841, runSort.sl.v4894, runSort.sl.v4892, runSort.sl.v4890, runSort.sl.v4888, runSort.sl.v4958, runSort.sl.v4956, runSort.sl.v4976, runSort.sl.v4954, runSort.sl.v4952, runSort.sl.r_14, runSort.sl.r_13, runSort.sl.r_10, runSort.sl.r_12, runSort.sl.r_11, runSort.sl.r_18, runSort.sl.r_17, runSort.sl.r_16, runSort.sl.r_20, runSort.sl.r_25, runSort.sl.r_24, runSort.sl.r_23, runSort.sl.r_22, runSort.sl.r_29, runSort.sl.r_28, runSort.sl.r_27, runSort.sl.r_31, runSort.sl.r_36, runSort.sl.r_35, runSort.sl.r_34, runSort.sl.r_33, runSort.sl.r_8, runSort.sl.r_6, runSort.sl.r_2, runSort.sl.v6824, runSort.sl.v6762, runSort.sl.v6703, runSort.sl.v6644, runSort.sl.v3324, runSort.sl.v3307, runSort.sl.v3250, runSort.sl.v3190, runSort.sl.v3130, runSort.sl.v3073, runSort.sl.v3014, runSort.sl.v2954, runSort.sl.v2921, runSort.sl.v2861, runSort.sl.v2801, runSort.sl.v2742, runSort.sl.v2692, runSort.sl.v2634, runSort.sl.v2584, runSort.sl.v2524, runSort.sl.v2461, runSort.sl.v2381, runSort.sl.v2357, runSort.sl.v2297, runSort.sl.v2236, runSort.sl.v2180, runSort.sl.v2120, runSort.sl.v2060, runSort.sl.v2000, runSort.sl.v1943, runSort.sl.v1883, runSort.sl.v1826, runSort.sl.v1769, runSort.sl.v1711, runSort.sl.v1707, runSort.sl.v1759, runSort.sl.v1757, runSort.sl.v1755, runSort.sl.v1753, runSort.sl.v1825, runSort.sl.v1823, runSort.sl.v1821, runSort.sl.v1879, runSort.sl.v1942, runSort.sl.v1941, runSort.sl.v1931, runSort.sl.v1929, runSort.sl.v1995, runSort.sl.v1993, runSort.sl.v1991, runSort.sl.v1989, runSort.sl.v2059, runSort.sl.v2057, runSort.sl.v2119, runSort.sl.v2179, runSort.sl.v2175, runSort.sl.v2231, runSort.sl.v2229, runSort.sl.v2227, runSort.sl.v2225, runSort.sl.v2296, runSort.sl.v2295, runSort.sl.v2293, runSort.sl.v2291, runSort.sl.v2289, runSort.sl.v2355, runSort.sl.v2353, runSort.sl.v2351, runSort.sl.v2377, runSort.sl.v2456, runSort.sl.v2454, runSort.sl.v2452, runSort.sl.v2450, runSort.sl.v2521, runSort.sl.v2520, runSort.sl.v2518, runSort.sl.v2516, runSort.sl.v2514, runSort.sl.v2582, runSort.sl.v2580, runSort.sl.v2578, runSort.sl.v2691, runSort.sl.v2638, runSort.sl.v2682, runSort.sl.v2741, runSort.sl.v2703, runSort.sl.v2702, runSort.sl.v2800, runSort.sl.v2798, runSort.sl.v2796, runSort.sl.v2860, runSort.sl.v2859, runSort.sl.v2918, runSort.sl.v2950, runSort.sl.v3013, runSort.sl.v3072, runSort.sl.v3120, runSort.sl.v3111, runSort.sl.v3189, runSort.sl.v3188, runSort.sl.v3187, runSort.sl.v3249, runSort.sl.v3248, runSort.sl.v3238, runSort.sl.v3236, runSort.sl.v3302, runSort.sl.v3300, runSort.sl.v3320, runSort.sl.v3298, runSort.sl.v3296, runSort.sl.v1667, runSort.sl.v1655, runSort.sl.v1597, runSort.sl.v1537, runSort.sl.v1477, runSort.sl.v1416, runSort.sl.v1357, runSort.sl.v1298, runSort.sl.v1267, runSort.sl.v1207, runSort.sl.v1147, runSort.sl.v1088, runSort.sl.v1087, runSort.sl.v1047, runSort.sl.v1035, runSort.sl.v982, runSort.sl.v930, runSort.sl.v869, runSort.sl.v810, runSort.sl.v725, runSort.sl.v703, runSort.sl.v643, runSort.sl.v580, runSort.sl.v526, runSort.sl.v466, runSort.sl.v406, runSort.sl.v349, runSort.sl.v289, runSort.sl.v227, runSort.sl.v172, runSort.sl.v115, runSort.sl.v55, runSort.sl.v51, runSort.sl.v114, runSort.sl.v113, runSort.sl.v103, runSort.sl.v101, runSort.sl.v171, runSort.sl.v169, runSort.sl.v167, runSort.sl.v223, runSort.sl.v288, runSort.sl.v287, runSort.sl.v286, runSort.sl.v339, runSort.sl.v337, runSort.sl.v335, runSort.sl.v333, runSort.sl.v405, runSort.sl.v403, runSort.sl.v401, runSort.sl.v465, runSort.sl.v464, runSort.sl.v523, runSort.sl.v575, runSort.sl.v573, runSort.sl.v571, runSort.sl.v569, runSort.sl.v640, runSort.sl.v639, runSort.sl.v637, runSort.sl.v635, runSort.sl.v633, runSort.sl.v701, runSort.sl.v699, runSort.sl.v697, runSort.sl.v721, runSort.sl.v800, runSort.sl.v798, runSort.sl.v796, runSort.sl.v794, runSort.sl.v864, runSort.sl.v862, runSort.sl.v860, runSort.sl.v858, runSort.sl.v929, runSort.sl.v928, runSort.sl.v926, runSort.sl.v924, runSort.sl.v922, runSort.sl.v1045, runSort.sl.cst_42, runSort.sl.v1044, runSort.sl.v1042, runSort.sl.v1040, runSort.sl.v1039, runSort.sl.v1038, runSort.sl.v1037, runSort.sl.v978, runSort.sl.v1036, runSort.sl.v1086, runSort.sl.v1085, runSort.sl.v1079, runSort.sl.v1078, runSort.sl.v1046, runSort.sl.v1026, runSort.sl.v1077, runSort.sl.v1082, runSort.sl.v1081, runSort.sl.v1080, runSort.sl.v1084, runSort.sl.v1076, runSort.sl.v1072, runSort.sl.v1049, runSort.sl.v1071, runSort.sl.v1068, runSort.sl.v1146, runSort.sl.v1144, runSort.sl.v1142, runSort.sl.v1206, runSort.sl.v1204, runSort.sl.v1266, runSort.sl.v1294, runSort.sl.v1356, runSort.sl.v1415, runSort.sl.v1476, runSort.sl.v1536, runSort.sl.v1535, runSort.sl.v1596, runSort.sl.v1595, runSort.sl.v1594, runSort.sl.v1645, runSort.sl.v1643, runSort.sl.v1663, runSort.sl.v1657, runSort.sl.v1656, runSort.sl.v6643, runSort.sl.v6702, runSort.sl.v6761, runSort.sl.v6823, runSort.sl.v6822, runSort.sl.r_1, runSort.sl.r, runSort.sl.r_5, runSort.sl.r_4, runSort.sl.r_3, runSort.sl.r_7, runSort.sl.r_40, runSort.sl.r_39, runSort.sl.r_38, runSort.sl.r_42, runSort.sl.r_44, runSort.sl.r_48, runSort.sl.r_47, runSort.sl.r_46, runSort.sl.r_54, runSort.sl.r_53, runSort.sl.r_52, runSort.sl.r_51, runSort.sl.r_50, runSort.sl.r_60, runSort.sl.r_59, runSort.sl.r_58, runSort.sl.r_57, runSort.sl.r_56, k0_pay2, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151, k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170, k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189, k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208, k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227, k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246, k0_pay1247, k0_pay1248, k0_pay1249, k0_pay1250, k0_pay1251, k0_pay1252, k0_pay1253, k0_pay1254, k0_pay1255, k0_pay1256, k0_pay1257, k0_pay1258, k0_pay1259, k0_pay1260, k0_pay1261, k0_pay1262, k0_pay1263, k0_pay1264, k0_pay1265, k0_pay1266, k0_pay1267, k0_pay1268, k0_pay1269, k0_pay1270, k0_pay1271, k0_pay1272, k0_pay1273, k0_pay1274, k0_pay1275, k0_pay1276, k0_pay1277, k0_pay1278, k0_pay1279, k0_pay1280, k0_pay1281, k0_pay1282, k0_pay1283, k0_pay1284, k0_pay1285, k0_pay1286, k0_pay1287, k0_pay1288, k0_pay1289, k0_pay1290, k0_pay1291, k0_pay1292, k0_pay1293, k0_pay1294, k0_pay1295, k0_pay1296, k0_pay1297, k0_pay1298, k0_pay1299, k0_pay1300, k0_pay1301, k0_pay1302, k0_pay1303, k0_pay1304, k0_pay1305, k0_pay1306, k0_pay1307, k0_pay1308, k0_pay1309, k0_pay1310, k0_pay1311, k0_pay1312, k0_pay1313, k0_pay1314, k0_pay1315, k0_pay1316, k0_pay1317, k0_pay1318, k0_pay1319, k0_pay1320, k0_pay1321, k0_pay1322, k0_pay1323, k0_pay1324, k0_pay1325, k0_pay1326, k0_pay1327, k0_pay1328, k0_pay1329, k0_pay1330, k0_pay1331, k0_pay1332, k0_pay1333, k0_pay1334, k0_pay1335, k0_pay1336, k0_pay1337, k0_pay1338, k0_pay1339, k0_pay1340, k0_pay1341, k0_pay1342, k0_pay1343, k0_pay1344, k0_pay1345, k0_pay1346, k0_pay1347, k0_pay1348, k0_pay1349, k0_pay1350, k0_pay1351, k0_pay1357, k0_pay1358, k0_pay1359, k0_pay1360, k0_pay1361, k0_pay1362, k0_pay1363, k0_pay1364, k0_pay1365, k0_pay1366, k0_pay1367, k0_pay1368, k0_pay1369, k0_pay1370, k0_pay1371, k0_pay1372, k0_pay1373, k0_pay1374, k0_pay1375, k0_pay1376, k0_pay1377, k0_pay1378, k0_pay1379, k0_pay1380, k0_pay1381, k0_pay1382, k0_pay1383, k0_pay1384, k0_pay1385, k0_pay1386, k0_pay1387, k0_pay1388, k0_pay1389, k0_pay1390, k0_pay1391, k0_pay1392, k0_pay1393, k0_pay1394, k0_pay1395, k0_pay1396, k0_pay1397, k0_pay1398, k0_pay1399, k0_pay1400, k0_pay1401, k0_pay1402, k0_pay1403, k0_pay1404, k0_pay1405, k0_pay1406, k0_pay1407, k0_pay1408, k0_pay1409, k0_pay1410, k0_pay1411, k0_pay1412, k0_pay1413, k0_pay1414, k0_pay1415, k0_pay1416, k0_pay1417, k0_pay1418, k0_pay1419, k0_pay1420, k0_pay1421, k0_pay1422, k0_pay1423, k0_pay1424, k0_pay1425, k0_pay1426, k0_pay1427, k0_pay1428, k0_pay1429, k0_pay1430, k0_pay1431, k0_pay1432, k0_pay1433, k0_pay1434, k0_pay1435, k0_pay1436, k0_pay1437, k0_pay1438, k0_pay1439, k0_pay1440, k0_pay1441, k0_pay1442, k0_pay1443, k0_pay1444, k0_pay1445, k0_pay1446, k0_pay1447, k0_pay1448, k0_pay1449, k0_pay1450, k0_pay1451, k0_pay1452, k0_pay1453, k0_pay1454, k0_pay1455, k0_pay1456, k0_pay1457, k0_pay1458, k0_pay1459, k0_pay1460, k0_pay1461, k0_pay1462, k0_pay1463, k0_pay1464, k0_pay1465, k0_pay1466, k0_pay1467, k0_pay1468, k0_pay1469, k0_pay1470, k0_pay1471, k0_pay1472, k0_pay1473, k0_pay1474, k0_pay1475, k0_pay1476, k0_pay1477, k0_pay1478, k0_pay1479, k0_pay1480, k0_pay1481, k0_pay1482, k0_pay1483, k0_pay1484, k0_pay1485, k0_pay1486, k0_pay1487, k0_pay1488, k0_pay1489, k0_pay1490, k0_pay1491, k0_pay1492, k0_pay1493, k0_pay1494, k0_pay1495, k0_pay1496, k0_pay1497, k0_pay1498, k0_pay1499, k0_pay1500, k0_pay1501, k0_pay1502, k0_pay1503, k0_pay1504, k0_pay1505, k0_pay1506, k0_pay1507, k0_pay1508, k0_pay1509, k0_pay1510, k0_pay1511, k0_pay1512, k0_pay1513, k0_pay1514, k0_pay1515, k0_pay1516, k0_pay1517, k0_pay1518, k0_pay1519, k0_pay1520, k0_pay1521, k0_pay1522, k0_pay1523, k0_pay1524, k0_pay1525, k0_pay1526, k0_pay1527, k0_pay1528, k0_pay1529, k0_pay1530, k0_pay1531, k0_pay1532, k0_pay1533, k0_pay1534, k0_pay1535, k0_pay1536, k0_pay1537, k0_pay1538, k0_pay1539, k0_pay1540, k0_pay1541, k0_pay1542, k0_pay1543, k0_pay1544, k0_pay1545, k0_pay1546, k0_pay1547, k0_pay1548, k0_pay1549, k0_pay1550, k0_pay1551, k0_pay1552, k0_pay1553, k0_pay1554, k0_pay1555, k0_pay1556, k0_pay1557, k0_pay1558, k0_pay1559, k0_pay1560, k0_pay1561, k0_pay1562, k0_pay1563, k0_pay1564, k0_pay1565, k0_pay1566, k0_pay1567, k0_pay1568, k0_pay1569, k0_pay1570, k0_pay1571, k0_pay1572, k0_pay1573, k0_pay1574, k0_pay1575, k0_pay1576, k0_pay1577, k0_pay1578, k0_pay1579, k0_pay1580, k0_pay1581, k0_pay1582, k0_pay1583, k0_pay1584, k0_pay1585, k0_pay1586, k0_pay1587, k0_pay1588, k0_pay1589, k0_pay1590, k0_pay1591, k0_pay1592, k0_pay1593, k0_pay1594, k0_pay1595, k0_pay1596, k0_pay1597, k0_pay1598, k0_pay1599, k0_pay1600, k0_pay1601, k0_pay1602, k0_pay1603, k0_pay1604, k0_pay1605, k0_pay1606, k0_pay1607, k0_pay1608, k0_pay1609, k0_pay1610, k0_pay1611, k0_pay1612, k0_pay1613, k0_pay1614, k0_pay1615, k0_pay1616, k0_pay1617, k0_pay1618, k0_pay1619, k0_pay1620, k0_pay1621, k0_pay1622, k0_pay1623, k0_pay1624, k0_pay1625, k0_pay1626, k0_pay1627, k0_pay1628, k0_pay1629, k0_pay1630, k0_pay1631, k0_pay1632, k0_pay1633, k0_pay1634, k0_pay1635, k0_pay1636, k0_pay1637, k0_pay1638, k0_pay1639, k0_pay1640, k0_pay1641, k0_pay1642, k0_pay1643, k0_pay1644, k0_pay1645, k0_pay1646, k0_pay1647, k0_pay1648, k0_pay1649, k0_pay1650, k0_pay1651, k0_pay1652, k0_pay1653, k0_pay1654, k0_pay1655, k0_pay1656, k0_pay1657, k0_pay1658, k0_pay1659, k0_pay1660, k0_pay1661, k0_pay1662, k0_pay1663, k0_pay1664, k0_pay1665, k0_pay1666, k0_pay1667, k0_pay1668, k0_pay1669, k0_pay1670, k0_pay1671, k0_pay1672, k0_pay1673, k0_pay1674, k0_pay1675, k0_pay1676, k0_pay1677, k0_pay1678, k0_pay1679, k0_pay1680, k0_pay1681, k0_pay1682, k0_pay1683, k0_pay1684, k0_pay1685, k0_pay1686, k0_pay1687, k0_pay1688, k0_pay1689, k0_pay1690, k0_pay1691, k0_pay1692, k0_pay1693, k0_pay1694, k0_pay1695, k0_pay1696, k0_pay1697, k0_pay1698, k0_pay1699, k0_pay1700, k0_pay1701, k0_pay1702, k0_pay1703, k0_pay1704, k0_pay1705, k0_pay1706, levels_1, levels_2, levels_3, levels_4, levels_5, levels_6, levels_7, levels_8, level_1, level_2, level_3, level_4, level_5, level_6, level_7, level_8, level_9, sub_0, sub_1, sub_2, sub_3, sub_4, sub_5, sub_6, sub_7, sub_8, sgt_4, sgt_2, sgt_1, slt_4, slt_2, slt_1, extui_1, extui_0, subi_1_0, hiKeep_none, hiKeep_some, loKeep_none, loKeep_some, sortChunk, chunk, first, hiStep, loStep, loSel, rolled, hiFlip, hiOnes, isSecond, floorDiv, side0, side1, sides, beats, descAt, allRows, noRows, noRows', rowIota, net]

/-- What the arm stores, as a function of the slot of the scratch it loads. -/
theorem runSort_val (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (hc1 : k0_cond2 i = 1#1) (x5 : Vec F S2x2048x128 .f32) :
    (runSort c i arg1 harg1 arg2 harg2 arg3 harg3 arg4 harg4 arg5 harg5 arg6 harg6 hc1 x5).1
      = readout (F := F) (net (View.readAt (Elt F) arg6.view (Rect.unit (s := S2x2048x128) (k0_off2 i) S1x2048x128.size (k0_off2_inb i hc1)).toLoadRect (harg6.unread x5))).2 := by
  rw [← net_eq c]
  rfl

end Cert.KernelIdeal.Hand

end
-- ==== Proof.ScoreRun.lean ====
/- The scores' arm run: what it leaves in the scratch is a function of the blocks it reads and of the scratch it finds. -/
module

public import proofs.«01_k».proof.Proof.Arms

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The scores' arm, run: it finds the blocks and the scratch, leaves the blocks, and the scratch at the value found here. -/
def runScore (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (hc0 : k0_cond1 i = 1#1) (x0 : Vec F S1024x128 .f32) (x1 : Vec F S1024x1024 .f32) (x2 : Vec F S2048x64 .f32) (x3 : Vec F S16x128 .f32)
    (x5 : Vec F S2x2048x128 .f32) :
    { y : Vec F S2x2048x128 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare y) -∗ K ⟨⟩))
          ⊢ wp frame (wpE (defs₀ (F := F)) Variants.none c none) E (scoreArm i arg1 harg1 arg2 harg2 arg3 harg3 arg4 harg4 arg5 harg5 arg6 harg6 hc0) K } := by
  refine ⟨?y, ?run⟩
  rotate_left
  · intro E K
    unfold scoreArm
    simp only []
    unfold owns
    iintro ⟨⟨%f0, %hf0, H0⟩, ⟨%f1, %hf1, H1⟩, ⟨%f2, %hf2, H2⟩, ⟨%f3, %hf3, H3⟩, ⟨%fs0, %hs0, HS0⟩, Hk⟩
    obtain rfl := harg1.eq_unread hf0; obtain rfl := harg2.eq_unread hf1; obtain rfl := harg3.eq_unread hf2; obtain rfl := harg4.eq_unread hf3
    obtain rfl := harg6.eq_unread hs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap; · iexact HS0
    ipureintro; rfl

end Cert.KernelIdeal.Hand

end
-- ==== Proof.Slots.lean ====
/- The two slots of the scratch, at Cert.KernelIdeal: a point stores its scores into one and sorts the other, which
   holds the scores of the point before. -/
module

public import proofs.«01_k».proof.Proof.Bridge
public import proofs.«01_k».proof.Proof.ScoreRun
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The slot of the scratch point `i` sorts. -/
def slot (arg6 : Memref sig .tc .vmem S2x2048x128 .f32) (harg6 : arg6.IsWhole) (i : grid0.Coords)
    (hc1 : k0_cond2 i = 1#1) (d : Vec F S2x2048x128 .f32) : FVec F S1x2048x128 .f32 :=
  View.readAt (Elt F) arg6.view (Rect.unit (s := S2x2048x128) (k0_off2 i) S1x2048x128.size (k0_off2_inb i hc1)).toLoadRect (harg6.unread d)

/-- A point sorts the slot the point before it has stored into. -/
theorem off2_next : ∀ t t' : Fin cfg0.N, t'.val = t.val + 1 → k0_off1 (grid0.coords t) = k0_off2 (grid0.coords t') :=
  (by decide +kernel : ∀ t t' : Fin grid0.N, t'.val = t.val + 1 → k0_off1 (grid0.coords t) = k0_off2 (grid0.coords t'))

/-- A point's two slots are disjoint. -/
theorem off_apart : ∀ t : Fin cfg0.N, k0_off2 (grid0.coords t) 0 + 1 ≤ k0_off1 (grid0.coords t) 0 ∨ k0_off1 (grid0.coords t) 0 + 1 ≤ k0_off2 (grid0.coords t) 0 :=
  (by decide +kernel : ∀ t : Fin grid0.N, k0_off2 (grid0.coords t) 0 + 1 ≤ k0_off1 (grid0.coords t) 0 ∨ k0_off1 (grid0.coords t) 0 + 1 ≤ k0_off2 (grid0.coords t) 0)

/-- The scratch after a store of `w` into point `i`'s slot. -/
def stored (arg6 : Memref sig .tc .vmem S2x2048x128 .f32) (harg6 : arg6.IsWhole) (i : grid0.Coords)
    (hc0 : k0_cond1 i = 1#1) (d : Vec F S2x2048x128 .f32) (w : FVec F S1x2048x128 .f32) : Vec F S2x2048x128 .f32 :=
  View.read (Elt F) arg6.view (arg6.view.writes (Elt F) (harg6.unread d)
    [⟨Rect.unit (s := S2x2048x128) (k0_off1 i) S1x2048x128.size (k0_off1_inb i hc0), w⟩])

section Generic

variable {sg : RefSig} {κ : Kind} {sp : Space} {s : Shape} {e : EltTy} {Val : EltTy → Type}

/-- A load of the rectangle just stored finds what was stored. -/
theorem readAt_stored_hit (M : Memref sg κ sp s e) (hM : M.IsWhole) {off off' size : Fin s.rank → ℕ}
    (inb : ∀ a, off a + size a ≤ s.size a) (inb' : ∀ a, off' a + size a ≤ s.size a) (h : off = off')
    (f : M.view.ty.Contents Val) (w : (⟨s.rank, size⟩ : Shape).Idx → Val e) :
    View.readAt Val M.view (Rect.unit off' size inb').toLoadRect
      (hM.unread (View.read Val M.view (M.view.writes Val f [⟨Rect.unit off size inb, w⟩]))) = w := by
  funext j
  rw [hM.unread_read]
  show View.read Val M.view _ ((Rect.unit off' size inb').emb j) = w j
  exact View.read_writes_cons_unit_of_mem M.view _ inb w [] _ j h fun a =>
    show off' a + 1 * (j a).val = _ by rw [Nat.one_mul]

/-- A load of a rectangle apart from the one just stored finds what was there before. -/
theorem readAt_stored_miss (M : Memref sg κ sp s e) (hM : M.IsWhole) {off off' size : Fin s.rank → ℕ}
    (inb : ∀ a, off a + size a ≤ s.size a) (inb' : ∀ a, off' a + size a ≤ s.size a) (a : Fin s.rank)
    (h : off' a + size a ≤ off a ∨ off a + size a ≤ off' a)
    (f : M.view.ty.Contents Val) (w : (⟨s.rank, size⟩ : Shape).Idx → Val e) :
    View.readAt Val M.view (Rect.unit off' size inb').toLoadRect
      (hM.unread (View.read Val M.view (M.view.writes Val f [⟨Rect.unit off size inb, w⟩])))
      = View.readAt Val M.view (Rect.unit off' size inb').toLoadRect f := by
  funext j
  rw [hM.unread_read]
  show View.read Val M.view _ ((Rect.unit off' size inb').emb j) = View.read Val M.view f ((Rect.unit off' size inb').emb j)
  refine View.read_writes_cons_unit_of_not_mem M.view _ inb w [] _ rfl a ?_
  show off' a + 1 * (j a).val < off a ∨ off a + size a ≤ off' a + 1 * (j a).val
  have hj : (j a).val < size a := (j a).isLt
  omega

end Generic

/-- What point `t` stores, the next point finds in the slot it sorts. -/
theorem slot_stored_next (arg6 : Memref sig .tc .vmem S2x2048x128 .f32) (harg6 : arg6.IsWhole) (t t' : Fin cfg0.N)
    (h : t'.val = t.val + 1) (hc0 : k0_cond1 (grid0.coords t) = 1#1) (hc1 : k0_cond2 (grid0.coords t') = 1#1)
    (d : Vec F S2x2048x128 .f32) (w : FVec F S1x2048x128 .f32) :
    slot arg6 harg6 (grid0.coords t') hc1 (stored arg6 harg6 (grid0.coords t) hc0 d w) = w :=
  readAt_stored_hit arg6 harg6 (k0_off1_inb (grid0.coords t) hc0) (k0_off2_inb (grid0.coords t') hc1) (off2_next t t' h)
    (harg6.unread d) w

/-- A point's own store leaves the slot it sorts as it was. -/
theorem slot_stored_same (arg6 : Memref sig .tc .vmem S2x2048x128 .f32) (harg6 : arg6.IsWhole) (t : Fin cfg0.N)
    (hc0 : k0_cond1 (grid0.coords t) = 1#1) (hc1 : k0_cond2 (grid0.coords t) = 1#1)
    (d : Vec F S2x2048x128 .f32) (w : FVec F S1x2048x128 .f32) :
    slot arg6 harg6 (grid0.coords t) hc1 (stored arg6 harg6 (grid0.coords t) hc0 d w) = slot arg6 harg6 (grid0.coords t) hc1 d :=
  readAt_stored_miss arg6 harg6 (k0_off1_inb (grid0.coords t) hc0) (k0_off2_inb (grid0.coords t) hc1) (0 : Fin 3) (off_apart t)
    (harg6.unread d) w

/-- What the scores' arm leaves in the scratch: its block of scores stored over what was there. -/
theorem runScore_val (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S2048x64 .f32) (harg3 : arg3.IsWhole) (arg4 : Memref sig .tc .vmem S16x128 .f32) (harg4 : arg4.IsWhole) (arg5 : Memref sig .tc .vmem S512x128 .i32) (harg5 : arg5.IsWhole) (arg6 : Memref sig .tc .vmem S2x2048x128 .f32) (harg6 : arg6.IsWhole)
    (hc0 : k0_cond1 i = 1#1) (x0 : Vec F S1024x128 .f32) (x1 : Vec F S1024x1024 .f32) (x2 : Vec F S2048x64 .f32) (x3 : Vec F S16x128 .f32)
    (x5 : Vec F S2x2048x128 .f32) :
    (runScore c i arg1 harg1 arg2 harg2 arg3 harg3 arg4 harg4 arg5 harg5 arg6 harg6 hc0 x0 x1 x2 x3 x5).1
      = stored arg6 harg6 i hc0 x5 (k0_pay1 (runScore.sl.r_7 c arg1 harg1 arg2 harg2 arg3 harg3 arg4 harg4 x0 x1 x2 x3)) := rfl

end Cert.KernelIdeal.Hand

end
-- ==== Proof.Run.lean ====
/- The run of Cert.KernelIdeal's pipeline, its scratch followed from point to point, and the frame it yields. -/
module

public import proofs.«01_k».proof.Proof.Slots
public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scores point `t` computes from its blocks. -/
def scores (c : Dev nD) (t : Fin cfg0.N) : FVec F S1x2048x128 .f32 :=
  k0_pay1 (runScore.sl.r_7 c (ms0_0 t) (hs0_0 t) (ms0_1 t) (hs0_1 t) (ms0_2 t) (hs0_2 t) (ms0_3 t) (hs0_3 t)
    (iblk m c 0 t) (iblk m c 1 t) (iblk m c 2 t) (iblk m c 3 t))

/-- The point before `t`. -/
def prev (t : Fin cfg0.N) : Fin cfg0.N := ⟨t.val - 1, lt_of_le_of_lt (Nat.sub_le _ _) t.isLt⟩

/-- What point `t` writes: the indices read out of the network run on the scores of the point before. -/
def outBlk (c : Dev nD) (t : Fin cfg0.N) : IVec S512x128 32 := readout (F := F) (net (scores m c (prev t))).2

/-- What is known of the scratch before point `n`: the slot point `n` sorts holds the scores of the point before. -/
def Holds (c : Dev nD) (n : Fin (cfg0.N + 1)) (d : Vec F S2x2048x128 .f32) : Prop :=
  ∀ t : Fin cfg0.N, t.val = n.val → 1 ≤ t.val → ∀ hc1 : k0_cond2 (grid0.coords t) = 1#1,
    slot scM0_0 (Memref.isWhole_whole _) (grid0.coords t) hc1 d = scores m c (prev t)

/-- The proof data: the arrays as the region finds them; after the body at point `t` each input's buffer at its block
    and the output's at `outBlk`; the invariant what is known of the scratch, and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ n := iprop((∃ d, ⌜Holds m c n d⌝ ∗ owns (c : Thread nD τ) scM0_0 fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body's precondition at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- The body's postcondition at point `t`, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The output's window is idle at the first point only. -/
theorem idle0_4 : ∀ t : Fin cfg0.N, cfg0.idle 4 (grid0.coords t) = decide (t.val = 0) :=
  (by decide +kernel : ∀ t : Fin grid0.N, idle0 4 (grid0.coords t) = decide (t.val = 0))

/-- The first point does not write the output's block back. -/
theorem flush0_4_zero : ∀ t : Fin cfg0.N, t.val = 0 → (cfg0.win 4).flush t = false :=
  (by decide +kernel : ∀ t : Fin grid0.N, t.val = 0 → win0_4.flush t = false)

/-- The slot the next point sorts holds this point's scores, once they are stored. -/
theorem holds_stored (c : Dev nD) (t : Fin cfg0.N) (hc0 : k0_cond1 (grid0.coords t) = 1#1) (d : Vec F S2x2048x128 .f32) :
    Holds m c t.succ (stored scM0_0 (Memref.isWhole_whole _) (grid0.coords t) hc0 d (scores m c t)) := by
  intro t' ht' h1 hc1
  have hs : t'.val = t.val + 1 := ht'
  rw [slot_stored_next scM0_0 (Memref.isWhole_whole _) t t' hs hc0 hc1]
  congr 1
  exact Fin.ext (by show t.val = t'.val - 1; omega)

/-- The scores' arm on its own, at a point it runs at: it leaves the inputs' blocks, and its scores in the scratch. -/
theorem sound_score (c : Dev nD) (t : Fin cfg0.N) (hc0 : k0_cond1 (grid0.coords t) = 1#1) (d : Vec F S2x2048x128 .f32) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ owns (c : Thread nD τ) scM0_0 fullShare d
        ∗ (iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) scM0_0 fullShare (stored scM0_0 (Memref.isWhole_whole _) (grid0.coords t) hc0 d (scores m c t))) -∗ K ⟨⟩))
      ⊢ wp frame (wpE (defs₀ (F := F)) Variants.none c none) Set.univ (scoreArm (grid0.coords t) (ms0_0 t) (hs0_0 t) (ms0_1 t) (hs0_1 t) (ms0_2 t) (hs0_2 t) (ms0_3 t) (hs0_3 t) (ms0_4 t) (hs0_4 t) scM0_0 (Memref.isWhole_whole _) hc0) K := by
  have h := (runScore c (grid0.coords t) (ms0_0 t) (hs0_0 t) (ms0_1 t) (hs0_1 t) (ms0_2 t) (hs0_2 t) (ms0_3 t) (hs0_3 t) (ms0_4 t) (hs0_4 t) scM0_0 (Memref.isWhole_whole _) hc0
    (iblk m c 0 t) (iblk m c 1 t) (iblk m c 2 t) (iblk m c 3 t) d).2 Set.univ K
  have hv := runScore_val c (grid0.coords t) (ms0_0 t) (hs0_0 t) (ms0_1 t) (hs0_1 t) (ms0_2 t) (hs0_2 t) (ms0_3 t) (hs0_3 t) (ms0_4 t) (hs0_4 t) scM0_0 (Memref.isWhole_whole _) hc0
    (iblk m c 0 t) (iblk m c 1 t) (iblk m c 2 t) (iblk m c 3 t) d
  unfold scores
  rw [← hv]
  exact h

/-- The sorting arm on its own, at a point it runs at, the slot it sorts holding the scores of the point before: it
    leaves the scratch, and `outBlk` in the output's buffer. -/
theorem sound_sort (c : Dev nD) (t : Fin cfg0.N) (hc1 : k0_cond2 (grid0.coords t) = 1#1) (d : Vec F S2x2048x128 .f32)
    (hd : slot scM0_0 (Memref.isWhole_whole _) (grid0.coords t) hc1 d = scores m c (prev t)) (K : PUnit → sProp 𝕄) :
    iprop((∃ d, owns (c : Thread nD τ) (ms0_4 t) fullShare d) ∗ owns (c : Thread nD τ) scM0_0 fullShare d
        ∗ (iprop(owns (c : Thread nD τ) (ms0_4 t) fullShare (outBlk m c t) ∗ owns (c : Thread nD τ) scM0_0 fullShare d) -∗ K ⟨⟩))
      ⊢ wp frame (wpE (defs₀ (F := F)) Variants.none c none) Set.univ (sortArm (grid0.coords t) (ms0_0 t) (hs0_0 t) (ms0_1 t) (hs0_1 t) (ms0_2 t) (hs0_2 t) (ms0_3 t) (hs0_3 t) (ms0_4 t) (hs0_4 t) scM0_0 (Memref.isWhole_whole _) hc1) K := by
  have h := (runSort c (grid0.coords t) (ms0_0 t) (hs0_0 t) (ms0_1 t) (hs0_1 t) (ms0_2 t) (hs0_2 t) (ms0_3 t) (hs0_3 t) (ms0_4 t) (hs0_4 t) scM0_0 (Memref.isWhole_whole _) hc1 d).2 Set.univ K
  have hv := runSort_val c (grid0.coords t) (ms0_0 t) (hs0_0 t) (ms0_1 t) (hs0_1 t) (ms0_2 t) (hs0_2 t) (ms0_3 t) (hs0_3 t) (ms0_4 t) (hs0_4 t) scM0_0 (Memref.isWhole_whole _) hc1 d
  rw [show outBlk m c t = _ from (congrArg (fun s => readout (F := F) (net s).2) hd.symm).trans hv.symm]
  exact h

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2, before0_3]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).Φ t.castSucc = iprop((∃ d, ⌜Holds m c t.castSucc d⌝ ∗ owns (c : Thread nD τ) scM0_0 fullShare d) ∗ (∃ r, prngReg c r)) from rfl,
    show (dats m 0 c).Φ t.succ = iprop((∃ d, ⌜Holds m c t.succ d⌝ ∗ owns (c : Thread nD τ) scM0_0 fullShare d) ∗ (∃ r, prngReg c r)) from rfl]
  have hN : t.val < 17 := lt_of_lt_of_eq t.isLt (show cfg0.N = 17 from N_0)
  by_cases h0 : t.val < 16
  · have hc0 : k0_cond1 (grid0.coords t) = 1#1 := (hcond0_0 t).mpr h0
    by_cases h1 : 1 ≤ t.val
    · have hc1 : k0_cond2 (grid0.coords t) = 1#1 := (hcond0_1 t).mpr h1
      rw [show (dats m 0 c).leavesExact 4 t = owns (c : Thread nD τ) (ms0_4 t) fullShare ((dats m 0 c).after 4 t) from by
        unfold Dat.leavesExact; rw [idle0_4 t, decide_eq_false (by omega)], after0_4]
      rw [dif_pos hc0, dif_pos hc1, wp_bind]
      iintro ⟨⟨⟨%d, %hd, HS0⟩, Hg⟩, Ho, ⟨%d0, H0⟩, ⟨%d1, H1⟩, ⟨%d2, H2⟩, ⟨%d3, H3⟩, ⟨%d4, H4⟩⟩
      iapply (sound_score m c t hc0 d _)
      isplitl [H0]; · iexact H0
      isplitl [H1]; · iexact H1
      isplitl [H2]; · iexact H2
      isplitl [H3]; · iexact H3
      isplitl [HS0]; · iexact HS0
      iintro ⟨H0, H1, H2, H3, HS0⟩
      rw [wp_bind]
      iapply (sound_sort m c t hc1 _ ((slot_stored_same scM0_0 (Memref.isWhole_whole _) t hc0 hc1 d _).trans (hd t rfl h1 hc1)) _)
      isplitl [H4]; · iexists _; iexact H4
      isplitl [HS0]; · iexact HS0
      iintro ⟨H4, HS0⟩
      rw [wp_pure]
      imodintro
      isplitl [HS0 Hg]
      · isplitl [HS0]
        · iexists _
          isplitr
          rotate_left
          · iexact HS0
          · ipureintro; exact holds_stored m c t hc0 d
        iexact Hg
      isplitl [Ho]; · iexact Ho
      isplitl [H0]; · iexact H0
      isplitl [H1]; · iexact H1
      isplitl [H2]; · iexact H2
      isplitl [H3]; · iexact H3
      iexact H4
    · have hc1 : ¬ k0_cond2 (grid0.coords t) = 1#1 := fun h => h1 ((hcond0_1 t).mp h)
      rw [(dats m 0 c).leavesExact_idle 4 t ((idle0_4 t).trans (decide_eq_true (by omega))) (flush0_4_zero t (by omega))]
      rw [dif_pos hc0, dif_neg hc1, wp_bind]
      iintro ⟨⟨⟨%d, %hd, HS0⟩, Hg⟩, Ho, ⟨%d0, H0⟩, ⟨%d1, H1⟩, ⟨%d2, H2⟩, ⟨%d3, H3⟩, ⟨%d4, H4⟩⟩
      iapply (sound_score m c t hc0 d _)
      isplitl [H0]; · iexact H0
      isplitl [H1]; · iexact H1
      isplitl [H2]; · iexact H2
      isplitl [H3]; · iexact H3
      isplitl [HS0]; · iexact HS0
      iintro ⟨H0, H1, H2, H3, HS0⟩
      rw [wp_pure]
      imodintro
      isplitl [HS0 Hg]
      · isplitl [HS0]
        · iexists _
          isplitr
          rotate_left
          · iexact HS0
          · ipureintro; exact holds_stored m c t hc0 d
        iexact Hg
      isplitl [Ho]; · iexact Ho
      isplitl [H0]; · iexact H0
      isplitl [H1]; · iexact H1
      isplitl [H2]; · iexact H2
      isplitl [H3]; · iexact H3
      iexists _; iexact H4
  · by_cases h1 : 1 ≤ t.val
    · have hc0 : ¬ k0_cond1 (grid0.coords t) = 1#1 := fun h => h0 ((hcond0_0 t).mp h)
      have hc1 : k0_cond2 (grid0.coords t) = 1#1 := (hcond0_1 t).mpr h1
      rw [show (dats m 0 c).leavesExact 4 t = owns (c : Thread nD τ) (ms0_4 t) fullShare ((dats m 0 c).after 4 t) from by
        unfold Dat.leavesExact; rw [idle0_4 t, decide_eq_false (by omega)], after0_4]
      rw [dif_neg hc0, dif_pos hc1, wp_bind]
      iintro ⟨⟨⟨%d, %hd, HS0⟩, Hg⟩, Ho, ⟨%d0, H0⟩, ⟨%d1, H1⟩, ⟨%d2, H2⟩, ⟨%d3, H3⟩, ⟨%d4, H4⟩⟩
      iapply (sound_sort m c t hc1 d (hd t rfl h1 hc1) _)
      isplitl [H4]; · iexists _; iexact H4
      isplitl [HS0]; · iexact HS0
      iintro ⟨H4, HS0⟩
      rw [wp_pure]
      imodintro
      isplitl [HS0 Hg]
      · isplitl [HS0]
        · iexists _
          isplitr
          rotate_left
          · iexact HS0
          · ipureintro
            intro t' ht'
            have : t'.val = t.val + 1 := ht'
            have : t'.val < 17 := lt_of_lt_of_eq t'.isLt (show cfg0.N = 17 from N_0)
            omega
        iexact Hg
      isplitl [Ho]; · iexact Ho
      isplitl [H0]; · iexact H0
      isplitl [H1]; · iexact H1
      isplitl [H2]; · iexact H2
      isplitl [H3]; · iexact H3
      iexact H4
    · exfalso; omega

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The class's invariant gives this one before the first point, where it says nothing of the scratch. -/
theorem phi_in (c : Dev nD) : Pipeline.ΦA spec0 c ⊢ ((dats m 0 c).Φ 0 : sProp 𝕄) := by
  rw [PhiA0_eq, show (dats m 0 c).Φ 0 = iprop((∃ d, ⌜Holds m c 0 d⌝ ∗ owns (c : Thread nD τ) scM0_0 fullShare d) ∗ (∃ r, prngReg c r)) from rfl]
  iintro ⟨⟨%d, HS0⟩, Hg⟩
  isplitl [HS0]
  · iexists d
    isplitr
    rotate_left
    · iexact HS0
    · ipureintro
      intro t ht h1
      have : t.val = 0 := ht
      omega
  iexact Hg

/-- And this one gives the class's after the last point. -/
theorem phi_out (c : Dev nD) : ((dats m 0 c).Φ (Fin.last cfg0.N) : sProp 𝕄) ⊢ Pipeline.ΦA spec0 c := by
  rw [PhiA0_eq, show (dats m 0 c).Φ (Fin.last cfg0.N) = iprop((∃ d, ⌜Holds m c (Fin.last cfg0.N) d⌝ ∗ owns (c : Thread nD τ) scM0_0 fullShare d) ∗ (∃ r, prngReg c r)) from rfl]
  iintro ⟨⟨%d, %hd, HS0⟩, Hg⟩
  isplitl [HS0]
  · iexists d; iexact HS0
  iexact Hg

set_option backward.isDefEq.respectTransparency.types false in
set_option maxHeartbeats 800000 in
/-- The launch: every run ends with each array at what the pipeline's points left there, and every counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim of the idealized program: it ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.RefRun.lean ====
/- The run of Cert.ReferenceIdeal: its result as one term of its arguments. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 65 operations, in order (a called function's operations stand in its call's place, spelt `TRef.…`). -/
abbrev ops : List (HloOp τ sig (Elt F)) :=
  [ unary main_arg2 main_v0 ((transpose S1024x1024 [1, 0] · transposes_S1024x1024_S1024x1024_1_0) : (⟨S1024x1024, .f32⟩ : BufTy).Contents (Elt F) → (⟨S1024x1024, .f32⟩ : BufTy).Contents (Elt F)),
    binary main_arg1 main_v0 main_v1 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v1 main_v2 (rfl : (.f32 : EltTy) = .f32) shapeCasts_S1x2048x1024_S1x2048x16x64,
    unary main_arg3 main_v3 ((transpose S1024x64 [1, 0] · transposes_S64x1024_S1024x64_1_0) : (⟨S64x1024, .f32⟩ : BufTy).Contents (Elt F) → (⟨S1024x64, .f32⟩ : BufTy).Contents (Elt F)),
    binary main_arg0 main_v3 main_v4 ((fun l r => Host.dotGeneral dot_S1x2048x1024_S1024x64_S1x2048x64_2_0_01_1_n_n none l r) : (⟨S1x2048x1024, .f32⟩ : BufTy).Contents (Elt F) → (⟨S1024x64, .f32⟩ : BufTy).Contents (Elt F) → (⟨S1x2048x64, .f32⟩ : BufTy).Contents (Elt F)),
    nullary main_cst (constant S_ .f32 0x00000000#32),
    binary main_v4 main_cst main_v5 ((fun x v => Host.reduceAdd x v reducesTo_S1x2048x64_S1x2048_d2 h_S_) : (⟨S1x2048x64, .f32⟩ : BufTy).Contents (Elt F) → (⟨S_, .f32⟩ : BufTy).Contents (Elt F) → (⟨S1x2048, .f32⟩ : BufTy).Contents (Elt F)),
    unary main_v5 main_v6 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_0 (constant S_ .f32 0x42800000#32),
    unary main_cst_0 main_v7 (broadcastInDim S1x2048x1 ![] bcast_S_S1x2048x1 : (⟨S_, .f32⟩ : BufTy).Contents (Elt F) → (⟨S1x2048x1, .f32⟩ : BufTy).Contents (Elt F)),
    binary main_v6 main_v7 main_v8 (Host.divf : (⟨S1x2048x1, .f32⟩ : BufTy).Contents (Elt F) → (⟨S1x2048x1, .f32⟩ : BufTy).Contents (Elt F) → (⟨S1x2048x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S1x2048x64, .f32⟩) main_v4) (TRef.of (T := ⟨S_, .f32⟩) main_call0_cst) (TRef.of (T := ⟨S1x2048, .f32⟩) main_call0_v0) (fun x v => Host.reduceAdd x v reducesTo_S1x2048x64_S1x2048_d2 h_S_),
    TRef.unary (TRef.of (T := ⟨S1x2048, .f32⟩) main_call0_v0) (TRef.of (T := ⟨S1x2048x1, .f32⟩) main_call0_v1) (broadcastInDim S1x2048x1 ![0, 1] bcast_S1x2048_S1x2048x1_0_1),
    TRef.nullary (TRef.of (T := ⟨S_, .f32⟩) main_call0_cst_0) (constant S_ .f32 0x42800000#32),
    TRef.unary (TRef.of (T := ⟨S_, .f32⟩) main_call0_cst_0) (TRef.of (T := ⟨S1x2048x1, .f32⟩) main_call0_v2) (broadcastInDim S1x2048x1 ![] bcast_S_S1x2048x1),
    TRef.binary (TRef.of (T := ⟨S1x2048x1, .f32⟩) main_call0_v1) (TRef.of (T := ⟨S1x2048x1, .f32⟩) main_call0_v2) (TRef.of (T := ⟨S1x2048x1, .f32⟩) main_call0_v3) Host.divf,
    TRef.unary (TRef.of (T := ⟨S1x2048x1, .f32⟩) main_call0_v3) (TRef.of (T := ⟨S1x2048x64, .f32⟩) main_call0_v4) (broadcastInDim S1x2048x64 ![0, 1, 2] bcast_S1x2048x1_S1x2048x64_0_1_2),
    TRef.binary (TRef.of (T := ⟨S1x2048x64, .f32⟩) main_v4) (TRef.of (T := ⟨S1x2048x64, .f32⟩) main_call0_v4) (TRef.of (T := ⟨S1x2048x64, .f32⟩) main_call0_v5) subf,
    TRef.binary (TRef.of (T := ⟨S1x2048x64, .f32⟩) main_call0_v5) (TRef.of (T := ⟨S1x2048x64, .f32⟩) main_call0_v5) (TRef.of (T := ⟨S1x2048x64, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x42800000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S1x2048x64, .f32⟩) main_call0_v6) (TRef.of (T := ⟨S_, .f32⟩) main_call0_cst_2) (TRef.of (T := ⟨S1x2048, .f32⟩) main_call0_v9) (fun x v => Host.reduceAdd x v reducesTo_S1x2048x64_S1x2048_d2 h_S_),
    TRef.unary (TRef.of (T := ⟨S1x2048, .f32⟩) main_call0_v9) (TRef.of (T := ⟨S1x2048x1, .f32⟩) main_call0_v10) (broadcastInDim S1x2048x1 ![0, 1] bcast_S1x2048_S1x2048x1_0_1),
    TRef.unary (TRef.of (T := ⟨S_, .f32⟩) main_call0_v8) (TRef.of (T := ⟨S1x2048x1, .f32⟩) main_call0_v11) (broadcastInDim S1x2048x1 ![] bcast_S_S1x2048x1),
    TRef.binary (TRef.of (T := ⟨S1x2048x1, .f32⟩) main_call0_v10) (TRef.of (T := ⟨S1x2048x1, .f32⟩) main_call0_v11) (TRef.of (T := ⟨S1x2048x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S1x2048x1, .f32⟩) main_call0_call0_v1) (broadcastInDim S1x2048x1 ![] bcast_S_S1x2048x1),
    TRef.ternary (TRef.of (T := ⟨S_, .i1⟩) main_call0_v13) (TRef.of (T := ⟨S1x2048x1, .f32⟩) main_call0_v12) (TRef.of (T := ⟨S1x2048x1, .f32⟩) main_call0_call0_v1) (TRef.of (T := ⟨S1x2048x1, .f32⟩) main_v9) (fun p a b => select (broadcastInDim S1x2048x1 ![] bcast_S_S1x2048x1 p) a b),
    unary main_v8 main_v10 (broadcastInDim S1x2048x64 ![0, 1, 2] bcast_S1x2048x1_S1x2048x64_0_1_2 : (⟨S1x2048x1, .f32⟩ : BufTy).Contents (Elt F) → (⟨S1x2048x64, .f32⟩ : BufTy).Contents (Elt F)),
    binary main_v4 main_v10 main_v11 (subf : (⟨S1x2048x64, .f32⟩ : BufTy).Contents (Elt F) → (⟨S1x2048x64, .f32⟩ : BufTy).Contents (Elt F) → (⟨S1x2048x64, .f32⟩ : BufTy).Contents (Elt F)),
    nullary main_cst_1 (constant S_ .f32 0x3727C5AC#32),
    unary main_cst_1 main_v12 (broadcastInDim S1x2048x1 ![] bcast_S_S1x2048x1 : (⟨S_, .f32⟩ : BufTy).Contents (Elt F) → (⟨S1x2048x1, .f32⟩ : BufTy).Contents (Elt F)),
    binary main_v9 main_v12 main_v13 (addf : (⟨S1x2048x1, .f32⟩ : BufTy).Contents (Elt F) → (⟨S1x2048x1, .f32⟩ : BufTy).Contents (Elt F) → (⟨S1x2048x1, .f32⟩ : BufTy).Contents (Elt F)),
    unary main_v13 main_v14 (Host.sqrt : (⟨S1x2048x1, .f32⟩ : BufTy).Contents (Elt F) → (⟨S1x2048x1, .f32⟩ : BufTy).Contents (Elt F)),
    unary main_v14 main_v15 (broadcastInDim S1x2048x64 ![0, 1, 2] bcast_S1x2048x1_S1x2048x64_0_1_2 : (⟨S1x2048x1, .f32⟩ : BufTy).Contents (Elt F) → (⟨S1x2048x64, .f32⟩ : BufTy).Contents (Elt F)),
    binary main_v11 main_v15 main_v16 (Host.divf : (⟨S1x2048x64, .f32⟩ : BufTy).Contents (Elt F) → (⟨S1x2048x64, .f32⟩ : BufTy).Contents (Elt F) → (⟨S1x2048x64, .f32⟩ : BufTy).Contents (Elt F)),
    unary main_arg4 main_v17 (broadcastInDim S1x1x64 ![2] bcast_S64_S1x1x64_2 : (⟨S64, .f32⟩ : BufTy).Contents (Elt F) → (⟨S1x1x64, .f32⟩ : BufTy).Contents (Elt F)),
    unary main_v17 main_v18 (broadcastInDim S1x2048x64 ![0, 1, 2] bcast_S1x1x64_S1x2048x64_0_1_2 : (⟨S1x1x64, .f32⟩ : BufTy).Contents (Elt F) → (⟨S1x2048x64, .f32⟩ : BufTy).Contents (Elt F)),
    binary main_v16 main_v18 main_v19 (mulf : (⟨S1x2048x64, .f32⟩ : BufTy).Contents (Elt F) → (⟨S1x2048x64, .f32⟩ : BufTy).Contents (Elt F) → (⟨S1x2048x64, .f32⟩ : BufTy).Contents (Elt F)),
    unary main_arg5 main_v20 (broadcastInDim S1x1x64 ![2] bcast_S64_S1x1x64_2 : (⟨S64, .f32⟩ : BufTy).Contents (Elt F) → (⟨S1x1x64, .f32⟩ : BufTy).Contents (Elt F)),
    unary main_v20 main_v21 (broadcastInDim S1x2048x64 ![0, 1, 2] bcast_S1x1x64_S1x2048x64_0_1_2 : (⟨S1x1x64, .f32⟩ : BufTy).Contents (Elt F) → (⟨S1x2048x64, .f32⟩ : BufTy).Contents (Elt F)),
    binary main_v19 main_v21 main_v22 (addf : (⟨S1x2048x64, .f32⟩ : BufTy).Contents (Elt F) → (⟨S1x2048x64, .f32⟩ : BufTy).Contents (Elt F) → (⟨S1x2048x64, .f32⟩ : BufTy).Contents (Elt F)),
    binary main_v2 main_v22 main_v23 ((fun l r => Host.dotGeneral dot_S1x2048x16x64_S1x2048x64_S1x2048x16x2048_3_2_12_1_0_0 none l r) : (⟨S1x2048x16x64, .f32⟩ : BufTy).Contents (Elt F) → (⟨S1x2048x64, .f32⟩ : BufTy).Contents (Elt F) → (⟨S1x2048x16x2048, .f32⟩ : BufTy).Contents (Elt F)),
    nullary main_cst_2 (constant S_ .f32 0x3E000000#32),
    unary main_cst_2 main_v24 (broadcastInDim S1x2048x16x2048 ![] bcast_S_S1x2048x16x2048 : (⟨S_, .f32⟩ : BufTy).Contents (Elt F) → (⟨S1x2048x16x2048, .f32⟩ : BufTy).Contents (Elt F)),
    binary main_v23 main_v24 main_v25 (mulf : (⟨S1x2048x16x2048, .f32⟩ : BufTy).Contents (Elt F) → (⟨S1x2048x16x2048, .f32⟩ : BufTy).Contents (Elt F) → (⟨S1x2048x16x2048, .f32⟩ : BufTy).Contents (Elt F)),
    unary main_arg6 main_v26 ((transpose S1024x16 [1, 0] · transposes_S16x1024_S1024x16_1_0) : (⟨S16x1024, .f32⟩ : BufTy).Contents (Elt F) → (⟨S1024x16, .f32⟩ : BufTy).Contents (Elt F)),
    binary main_arg0 main_v26 main_v27 ((fun l r => Host.dotGeneral dot_S1x2048x1024_S1024x16_S1x2048x16_2_0_01_1_n_n none l r) : (⟨S1x2048x1024, .f32⟩ : BufTy).Contents (Elt F) → (⟨S1024x16, .f32⟩ : BufTy).Contents (Elt F) → (⟨S1x2048x16, .f32⟩ : BufTy).Contents (Elt F)),
    nullary main_cst_3 (constant S_ .f32 0x3E800000#32),
    unary main_cst_3 main_v28 (broadcastInDim S1x2048x16 ![] bcast_S_S1x2048x16 : (⟨S_, .f32⟩ : BufTy).Contents (Elt F) → (⟨S1x2048x16, .f32⟩ : BufTy).Contents (Elt F)),
    binary main_v27 main_v28 main_v29 (mulf : (⟨S1x2048x16, .f32⟩ : BufTy).Contents (Elt F) → (⟨S1x2048x16, .f32⟩ : BufTy).Contents (Elt F) → (⟨S1x2048x16, .f32⟩ : BufTy).Contents (Elt F)),
    unary main_v29 main_v30 (broadcastInDim S1x2048x16x1 ![0, 1, 2] bcast_S1x2048x16_S1x2048x16x1_0_1_2 : (⟨S1x2048x16, .f32⟩ : BufTy).Contents (Elt F) → (⟨S1x2048x16x1, .f32⟩ : BufTy).Contents (Elt F)),
    unary main_v30 main_v31 (broadcastInDim S1x2048x16x2048 ![0, 1, 2, 3] bcast_S1x2048x16x1_S1x2048x16x2048_0_1_2_3 : (⟨S1x2048x16x1, .f32⟩ : BufTy).Contents (Elt F) → (⟨S1x2048x16x2048, .f32⟩ : BufTy).Contents (Elt F)),
    binary main_v25 main_v31 main_v32 (mulf : (⟨S1x2048x16x2048, .f32⟩ : BufTy).Contents (Elt F) → (⟨S1x2048x16x2048, .f32⟩ : BufTy).Contents (Elt F) → (⟨S1x2048x16x2048, .f32⟩ : BufTy).Contents (Elt F)),
    nullary main_cst_4 (constant S_ .f32 0x00000000#32),
    binary main_v32 main_cst_4 main_v33 ((fun x v => Host.reduceAdd x v reducesTo_S1x2048x16x2048_S1x2048x2048_d2 h_S_) : (⟨S1x2048x16x2048, .f32⟩ : BufTy).Contents (Elt F) → (⟨S_, .f32⟩ : BufTy).Contents (Elt F) → (⟨S1x2048x2048, .f32⟩ : BufTy).Contents (Elt F)),
    unary main_v33 main_values ((fun x => (Host.topK S1x2048x512 2 (FloatOps.cmpfTotal .gt) x sliceFits_S1x2048x2048_S1x2048x512).1) : (⟨S1x2048x2048, .f32⟩ : BufTy).Contents (Elt F) → (⟨S1x2048x512, .f32⟩ : BufTy).Contents (Elt F)),
    unary main_v33 main_indices ((fun x => (Host.topK S1x2048x512 2 (FloatOps.cmpfTotal .gt) x sliceFits_S1x2048x2048_S1x2048x512).2) : (⟨S1x2048x2048, .f32⟩ : BufTy).Contents (Elt F) → (⟨S1x2048x512, .i32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., reshape_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., binary_bufs_sub .., unary_bufs_sub .., unary_bufs_sub ..⟩

set_option maxRecDepth 8192 in
/-- `main_indices`'s composed term of the arguments (named: it is long). -/
def res_main_indices (m : (ℓ : Loc nD τ sig) → Buf (Elt F) ℓ) (c : Dev nD) : Buf (Elt F) ((c.tc : Thread nD τ).loc main_indices) :=
  (Host.topK S1x2048x512 2 (FloatOps.cmpfTotal .gt) (Host.reduceAdd (mulf (mulf (Host.dotGeneral dot_S1x2048x16x64_S1x2048x64_S1x2048x16x2048_3_2_12_1_0_0 none (shapeCast _ (Host.dotGeneral dot_S1x2048x1024_S1024x1024_S1x2048x1024_2_0_01_1_n_n none (m ((c.tc : Thread nD τ).loc main_arg1)) (transpose S1024x1024 [1, 0] (m ((c.tc : Thread nD τ).loc main_arg2)) transposes_S1024x1024_S1024x1024_1_0)) shapeCasts_S1x2048x1024_S1x2048x16x64) (addf (mulf (Host.divf (subf (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (broadcastInDim S1x2048x64 ![0, 1, 2] bcast_S1x2048x1_S1x2048x64_0_1_2 (Host.divf (broadcastInDim S1x2048x1 ![0, 1] bcast_S1x2048_S1x2048x1_0_1 (Host.reduceAdd (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (constant S_ .f32 0x00000000#32) reducesTo_S1x2048x64_S1x2048_d2 h_S_)) (broadcastInDim S1x2048x1 ![] bcast_S_S1x2048x1 (constant S_ .f32 0x42800000#32))))) (broadcastInDim S1x2048x64 ![0, 1, 2] bcast_S1x2048x1_S1x2048x64_0_1_2 (Host.sqrt (addf (select (broadcastInDim S1x2048x1 ![] bcast_S_S1x2048x1 (cmpf .ogt (subf (constant S_ .f32 0x42800000#32) (sitofp .f32 (constantI S_ 32 0#32)) : (⟨S_, .f32⟩ : BufTy).Contents (Elt F)) (constant S_ .f32 0x00000000#32))) (Host.divf (broadcastInDim S1x2048x1 ![0, 1] bcast_S1x2048_S1x2048x1_0_1 (Host.reduceAdd (mulf (subf (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (broadcastInDim S1x2048x64 ![0, 1, 2] bcast_S1x2048x1_S1x2048x64_0_1_2 (Host.divf (broadcastInDim S1x2048x1 ![0, 1] bcast_S1x2048_S1x2048x1_0_1 (Host.reduceAdd (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (constant S_ .f32 0x00000000#32) reducesTo_S1x2048x64_S1x2048_d2 h_S_)) (broadcastInDim S1x2048x1 ![] bcast_S_S1x2048x1 (constant S_ .f32 0x42800000#32))))) (subf (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (broadcastInDim S1x2048x64 ![0, 1, 2] bcast_S1x2048x1_S1x2048x64_0_1_2 (Host.divf (broadcastInDim S1x2048x1 ![0, 1] bcast_S1x2048_S1x2048x1_0_1 (Host.reduceAdd (Host.dotGeneral dot_S1x2048x1024_S1024x64_S1x2048x64_2_0_01_1_n_n none (m ((c.tc : Thread nD τ).loc main_arg0)) (transpose S1024x64 [1, 0] (m ((c.tc : Thread nD τ).loc main_arg3)) transposes_S64x1024_S1024x64_1_0)) (constant S_ .f32 0x00000000#32) reducesTo_S1x2048x64_S1x2048_d2 h_S_)) (broadcastInDim S1x2048x1 ![] bcast_S_S1x2048x1 (constant S_ .f32 0x42800000#32)))))) (constant S_ .f32 0x00000000#32) reducesTo_S1x2048x64_S1x2048_d2 h_S_)) (broadcastInDim S1x2048x1 ![] bcast_S_S1x2048x1 (subf (constant S_ .f32 0x42800000#32) (sitofp .f32 (constantI S_ 32 0#32))))) (broadcastInDim S1x2048x1 ![] bcast_S_S1x2048x1 (id (constant S_ .f32 0x7FC00000#32)))) (broadcastInDim S1x2048x1 ![] bcast_S_S1x2048x1 (constant S_ .f32 0x3727C5AC#32)))))) (broadcastInDim S1x2048x64 ![0, 1, 2] bcast_S1x1x64_S1x2048x64_0_1_2 (broadcastInDim S1x1x64 ![2] bcast_S64_S1x1x64_2 (m ((c.tc : Thread nD τ).loc main_arg4))))) (broadcastInDim S1x2048x64 ![0, 1, 2] bcast_S1x1x64_S1x2048x64_0_1_2 (broadcastInDim S1x1x64 ![2] bcast_S64_S1x1x64_2 (m ((c.tc : Thread nD τ).loc main_arg5)))))) (broadcastInDim S1x2048x16x2048 ![] bcast_S_S1x2048x16x2048 (constant S_ .f32 0x3E000000#32))) (broadcastInDim S1x2048x16x2048 ![0, 1, 2, 3] bcast_S1x2048x16x1_S1x2048x16x2048_0_1_2_3 (broadcastInDim S1x2048x16x1 ![0, 1, 2] bcast_S1x2048x16_S1x2048x16x1_0_1_2 (mulf (Host.dotGeneral dot_S1x2048x1024_S1024x16_S1x2048x16_2_0_01_1_n_n none (m ((c.tc : Thread nD τ).loc main_arg0)) (transpose S1024x16 [1, 0] (m ((c.tc : Thread nD τ).loc main_arg6)) transposes_S16x1024_S1024x16_1_0)) (broadcastInDim S1x2048x16 ![] bcast_S_S1x2048x16 (constant S_ .f32 0x3E800000#32)))))) (constant S_ .f32 0x00000000#32) reducesTo_S1x2048x16x2048_S1x2048x2048_d2 h_S_) sliceFits_S1x2048x2048_S1x2048x512).2

set_option maxRecDepth 8192 in
set_option maxHeartbeats 26000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_indices) = res_main_indices m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_indices).trans (by simp only [ops, TRef.binary, TRef.nullary, TRef.ternary, TRef.unary, TRef.toBuf, TRef.ofBuf, cast_eq]; after_results_simp <;> rfl <;> (unfold res_main_indices; rfl)),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl),
      (h c main_arg6).trans (by simp only [ops, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.ScoreSum.lean ====
/- The scores' arm at an index: the score of key `i` for the block's query `c` is the sum over the sixteen heads of the product
   of the key's row with the head's projected query, times the head's weight and one eighth. -/
module

public import proofs.«01_k».proof.Proof.Run
public import Idealize.ShloMosaic.Lib.MatmulPlain
public import Idealize.ShloMosaic.Lib.VecWindow
public import Idealize.ShloMosaic.Lib.ValueIdxCore
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

theorem head_slices (n : Nat) (hn : n < 16) : S1024x128.Slices ![64 * n, 0] S64x128 :=
  ⟨rfl, by intro i; fin_cases i <;> simp <;> omega⟩

theorem weight_slices (n : Nat) (hn : n < 16) : S16x128.Slices ![n, 0] S1x128 :=
  ⟨rfl, by intro i; fin_cases i <;> simp <;> omega⟩

/-- The scores summed over the first `n` heads, as the arm adds them up. -/
def headSum (v10 : FVec Ideal S1024x128 .f32) (v12 : FVec Ideal S2048x64 .f32) (v14 : FVec Ideal S16x128 .f32) :
    (n : Nat) → n ≤ 16 → FVec Ideal S2048x128 .f32
  | 0, _ => broadcast S2048x128 (Scalar.ofBits .f32 0x00000000#32)
  | n + 1, hn => addf (headSum v10 v12 v14 n (Nat.le_of_succ_le hn))
      (mulf (matmul dot_S2048x64_S64x128_S2048x128_1_0_0_1_n_n none v12
          (extractStridedSlice S64x128 ![64 * n, 0] v10 (head_slices n hn)) (constant S2048x128 .f32 0x00000000#32))
        (broadcastTo S2048x128 (mulf (extractStridedSlice S1x128 ![n, 0] v14 (weight_slices n hn))
          (broadcast S1x128 (Scalar.ofBits .f32 0x3E000000#32))) broadcasts_S1x128_S2048x128))

/-- One eighth. -/
def eighth : EReal := Ideal.ofBits .f32 0x3E000000#32

/-- One head's part of a score. -/
def headTerm (v10 : FVec Ideal S1024x128 .f32) (v12 : FVec Ideal S2048x64 .f32) (v14 : FVec Ideal S16x128 .f32)
    (i : Fin 2048) (c : Fin 128) (h : Fin 16) : EReal :=
  (∑ d : Fin 64, v12 (ix2 i d) * v10 (ix2 (⟨64 * h.val + d.val, by omega⟩ : Fin 1024) c)) * (v14 (ix2 h c) * eighth)

theorem headDot_eq (v12 : FVec Ideal S2048x64 .f32) (b : FVec Ideal S64x128 .f32) (j : S2048x128.Idx) :
    matmul dot_S2048x64_S64x128_S2048x128_1_0_0_1_n_n none v12 b (constant S2048x128 .f32 0x00000000#32) j
      = FloatOps.matmul (F := Ideal) (DotDims.plain 2048 64 128) none v12 b (constant S2048x128 .f32 0x00000000#32) j := rfl

theorem headSum_apply (v10 : FVec Ideal S1024x128 .f32) (v12 : FVec Ideal S2048x64 .f32) (v14 : FVec Ideal S16x128 .f32)
    (i : Fin 2048) (c : Fin 128) (n : Nat) (hn : n ≤ 16) :
    headSum v10 v12 v14 n hn (ix2 i c) = ∑ h : Fin n, headTerm v10 v12 v14 i c (h.castLE hn) := by
  induction n with
  | zero =>
    show Ideal.ofBits .f32 0x00000000#32 = _
    rw [Ideal.ofBits_zero_f32]
    simp
  | succ n ih =>
    rw [Fin.sum_univ_castSucc]
    have hm : matmul dot_S2048x64_S64x128_S2048x128_1_0_0_1_n_n none v12
          (extractStridedSlice S64x128 ![64 * n, 0] v10 (head_slices n hn)) (constant S2048x128 .f32 0x00000000#32) (ix2 i c)
        = ∑ d : Fin 64, v12 (ix2 i d) * v10 (ix2 (⟨64 * n + d.val, by omega⟩ : Fin 1024) c) := by
      rw [headDot_eq, Ideal.matmul_plain_apply]
      show Ideal.ofBits .f32 0x00000000#32 + _ = _
      rw [Ideal.ofBits_zero_f32, zero_add]
      refine Finset.sum_congr rfl fun d _ => ?_
      rw [extractStridedSlice_apply _ _ _ _ (ix2 (⟨64 * n + d.val, by omega⟩ : Fin 1024) c) (by intro a; fin_cases a <;> simp)]
    have hw : broadcastTo S2048x128 (mulf (extractStridedSlice S1x128 ![n, 0] v14 (weight_slices n hn))
          (broadcast S1x128 (Scalar.ofBits .f32 0x3E000000#32))) broadcasts_S1x128_S2048x128 (ix2 i c)
        = v14 (ix2 (⟨n, hn⟩ : Fin 16) c) * eighth := by
      rw [Idealize.ShloMosaic.broadcastTo_apply _ _ _ (ix2 (0 : Fin 1) c) (by intro a; fin_cases a <;> rfl)]
      show extractStridedSlice S1x128 ![n, 0] v14 (weight_slices n hn) (ix2 (0 : Fin 1) c) * eighth = _
      rw [extractStridedSlice_apply _ _ _ _ (ix2 (⟨n, hn⟩ : Fin 16) c) (by intro a; fin_cases a <;> simp)]
    show headSum v10 v12 v14 n (Nat.le_of_succ_le hn) (ix2 i c)
      + matmul dot_S2048x64_S64x128_S2048x128_1_0_0_1_n_n none v12
          (extractStridedSlice S64x128 ![64 * n, 0] v10 (head_slices n hn)) (constant S2048x128 .f32 0x00000000#32) (ix2 i c)
        * broadcastTo S2048x128 (mulf (extractStridedSlice S1x128 ![n, 0] v14 (weight_slices n hn))
          (broadcast S1x128 (Scalar.ofBits .f32 0x3E000000#32))) broadcasts_S1x128_S2048x128 (ix2 i c) = _
    rw [hm, hw, ih]
    rfl

theorem proj_eq (v7 : FVec Ideal S1024x1024 .f32) (v8 : FVec Ideal S1024x128 .f32) (j : S1024x128.Idx) :
    k0_pay3 v7 v8 j = FloatOps.matmul (F := Ideal) (φ₁ := .f32) (φ₂ := .f32) (DotDims.plain 1024 1024 128) none v7
      (shapeCast S1024x128 v8 shapeCasts_S1024x128_S1024x128) (constant S1024x128 .f32 0x00000000#32) j := rfl

/-- The projected query. -/
theorem proj_apply (v7 : FVec Ideal S1024x1024 .f32) (v8 : FVec Ideal S1024x128 .f32) (r : Fin 1024) (c : Fin 128) :
    k0_pay3 v7 v8 (ix2 r c) = ∑ e : Fin 1024, v7 (ix2 r e) * v8 (ix2 e c) := by
  rw [proj_eq, Ideal.matmul_plain_apply]
  show Ideal.ofBits .f32 0x00000000#32 + _ = _
  rw [Ideal.ofBits_zero_f32, zero_add]
  refine Finset.sum_congr rfl fun e _ => ?_
  rw [shapeCast_apply v8 _ (ix2 e c) (ix2 e c) rfl]

/-- The sixteen heads' sum, as the arm's payloads state it. -/
theorem pays_eq (v7 : Vec Ideal S1024x1024 .f32) (v8 : Vec Ideal S1024x128 .f32) (v11 : Vec Ideal S2048x64 .f32) (v13 : Vec Ideal S16x128 .f32) :
    k0_pay10 (k0_pay3 v7 v8) (k0_pay4 v11) (k0_pay5 v13)
      (k0_pay8 (k0_pay3 v7 v8) (k0_pay4 v11) (k0_pay5 v13) (k0_pay6 v7 v8 v11 v13) (k0_pay7 v7 v8)) (k0_pay9 (k0_pay3 v7 v8))
      = headSum (k0_pay3 v7 v8) (k0_pay4 v11) (k0_pay5 v13) 16 (Nat.le_refl 16) := rfl

/-- A load of a whole buffer reads the contents it is held at. -/
theorem load_full {σ : RefSig} {κ : Kind} {sp : Space} {s : Shape} {e : EltTy} {M : Memref σ κ sp s e} (h : M.IsWhole) (X : s.Idx → Elt Ideal e)
    {off : Fin s.rank → Nat} (inb : ∀ a, off a + s.size a ≤ s.size a) :
    View.readAt (Elt Ideal) M.view (Rect.unit off s.size inb).toLoadRect (h.unread X) = X :=
  (View.readAt_full M.view (h.unread X) inb).trans (h.read_unread X)

/-- The arm's scores of four blocks. -/
def blockScores (x0 : FVec Ideal S1024x128 .f32) (x1 : FVec Ideal S1024x1024 .f32) (x2 : FVec Ideal S2048x64 .f32) (x3 : FVec Ideal S16x128 .f32) :
    FVec Ideal S1x2048x128 .f32 :=
  k0_pay1 (k0_pay10 (k0_pay3 x1 x0) (k0_pay4 x2) (k0_pay5 x3)
      (k0_pay8 (k0_pay3 x1 x0) (k0_pay4 x2) (k0_pay5 x3) (k0_pay6 x1 x0 x2 x3) (k0_pay7 x1 x0)) (k0_pay9 (k0_pay3 x1 x0)))

/-- The arm's scores at an index: the sum over the heads. -/
theorem blockScores_apply (x0 : FVec Ideal S1024x128 .f32) (x1 : FVec Ideal S1024x1024 .f32) (x2 : FVec Ideal S2048x64 .f32) (x3 : FVec Ideal S16x128 .f32)
    (i : Fin 2048) (q : Fin 128) :
    blockScores x0 x1 x2 x3 (ix3 (0 : Fin 1) i q)
      = ∑ h : Fin 16, (∑ d : Fin 64, x2 (ix2 i d)
          * ∑ e : Fin 1024, x1 (ix2 (⟨64 * h.val + d.val, by omega⟩ : Fin 1024) e) * x0 (ix2 e q))
        * (x3 (ix2 h q) * eighth) := by
  unfold blockScores k0_pay1
  rw [pays_eq, shapeCast_apply _ _ (ix3 (0 : Fin 1) i q) (ix2 i q) (by rw [Shape.rowMajor_val_two, Shape.rowMajor_val_three]; simp), headSum_apply]
  refine Finset.sum_congr rfl fun h _ => ?_
  unfold headTerm
  refine congrArg₂ (· * ·) (Finset.sum_congr rfl fun d _ => ?_) ?_
  · rw [proj_apply]
    unfold k0_pay4
    rw [shapeCast_apply _ _ (ix2 i d) (ix2 i d) rfl]
    rfl
  · unfold k0_pay5
    exact congrArg (· * eighth) (shapeCast_apply x3 _ (ix2 h q) (ix2 h q) rfl)

/-- What the arm leaves, read off whole buffers, is the scores of the blocks they hold. -/
theorem arm_eq (c : Dev nD) (a0 : Memref sig Kind.tc Space.vmem S1024x128 EltTy.f32) (h0 : a0.IsWhole)
    (a1 : Memref sig Kind.tc Space.vmem S1024x1024 EltTy.f32) (h1 : a1.IsWhole) (a2 : Memref sig Kind.tc Space.vmem S2048x64 EltTy.f32) (h2 : a2.IsWhole)
    (a3 : Memref sig Kind.tc Space.vmem S16x128 EltTy.f32) (h3 : a3.IsWhole)
    (x0 : FVec Ideal S1024x128 .f32) (x1 : FVec Ideal S1024x1024 .f32) (x2 : FVec Ideal S2048x64 .f32) (x3 : FVec Ideal S16x128 .f32) :
    k0_pay1 (runScore.sl.r_7 (F := Ideal) c a0 h0 a1 h1 a2 h2 a3 h3 x0 x1 x2 x3) = blockScores x0 x1 x2 x3 := by
  unfold runScore.sl.r_7 runScore.sl.r_6 runScore.sl.r_5 runScore.sl.r_4 runScore.sl.r_3 runScore.sl.r_2 runScore.sl.r_1 runScore.sl.r
  rw [load_full h0 x0 inb_S1024x128_S1024x128_0_0, load_full h1 x1 inb_S1024x1024_S1024x1024_0_0, load_full h2 x2 inb_S2048x64_S2048x64_0_0,
    load_full h3 x3 inb_S16x128_S16x128_0_0]
  rfl

variable (m : (ℓ : Loc nD τ sig) → Buf (Elt Ideal) ℓ)

/-- A step's block of queries, one column each. -/
def qBlk (c : Dev nD) (t : Fin cfg0.N) : FVec Ideal S1024x128 .f32 := iblk m c 0 t
/-- A step's projection matrix. -/
def pBlk (c : Dev nD) (t : Fin cfg0.N) : FVec Ideal S1024x1024 .f32 := iblk m c 1 t
/-- A step's keys. -/
def kBlk (c : Dev nD) (t : Fin cfg0.N) : FVec Ideal S2048x64 .f32 := iblk m c 2 t
/-- A step's block of head weights, one column per query. -/
def wBlk (c : Dev nD) (t : Fin cfg0.N) : FVec Ideal S16x128 .f32 := iblk m c 3 t

/-- A step's scores at an index: the sum over the heads, from the step's blocks. -/
theorem scores_eq (c : Dev nD) (t : Fin cfg0.N) : scores m c t = blockScores (qBlk m c t) (pBlk m c t) (kBlk m c t) (wBlk m c t) :=
  arm_eq c _ _ _ _ _ _ _ _ _ _ _ _

end Cert.KernelIdeal.Hand

end
-- ==== Proof.KeyNorm.lean ====
/- The layer norm of the keys, row by row, as both programs compute it: the mean and the variance of a row of 64, then the row
   less its mean over the root of the variance, scaled and shifted. -/
module

public import Idealize.ShloMosaic.PureOps.Ideal.Laws
public import Idealize.ShloMosaic.Lib.MatmulPlain

@[expose] public section

noncomputable section

namespace Cert.KernelIdeal.Hand

open Idealize.ShloMosaic

/-- The sum of a row, from zero. -/
def rowSum (y : Fin 64 → EReal) : EReal := (FloatOps.ofBits (F := Ideal) .f32 0x00000000#32 : EReal) + ∑ d, y d

/-- The mean of a row. -/
def rowMean (y : Fin 64 → EReal) : EReal := FloatOps.hostDivf (F := Ideal) (φ := .f32) (rowSum y) (FloatOps.ofBits .f32 0x42800000#32)

/-- A row less its mean. -/
def rowDev (y : Fin 64 → EReal) (d : Fin 64) : EReal := FloatOps.subf (F := Ideal) (φ := .f32) (y d) (rowMean y)

/-- The number of a row's entries, less the zero degrees of freedom taken off. -/
def rowCount : EReal :=
  FloatOps.subf (F := Ideal) (φ := .f32) (FloatOps.ofBits .f32 0x42800000#32) (FloatOps.sitofp .f32 (0#32))

/-- The variance of a row. -/
def rowVar (y : Fin 64 → EReal) : EReal :=
  Scalar.select (FloatOps.cmpf (F := Ideal) (φ := .f32) .ogt rowCount (FloatOps.ofBits .f32 0x00000000#32))
    (FloatOps.hostDivf (F := Ideal) (φ := .f32) (rowSum fun d => FloatOps.mulf (F := Ideal) (φ := .f32) (rowDev y d) (rowDev y d)) rowCount)
    (FloatOps.ofBits (F := Ideal) .f32 0x7FC00000#32)

/-- A normalised row, scaled by `g` and shifted by `b`. -/
def rowNorm (y g b : Fin 64 → EReal) (d : Fin 64) : EReal :=
  FloatOps.addf (F := Ideal) (φ := .f32)
    (FloatOps.mulf (F := Ideal) (φ := .f32)
      (FloatOps.hostDivf (F := Ideal) (φ := .f32) (rowDev y d)
        (FloatOps.hostUnary (F := Ideal) (φ := .f32) .sqrt
          (FloatOps.addf (F := Ideal) (φ := .f32) (rowVar y) (FloatOps.ofBits .f32 0x3727C5AC#32))))
      (g d)) (b d)

end Cert.KernelIdeal.Hand

end
-- ==== Proof.HostVal.lean ====
/- The arrays the kernel's host lines hand to its grid: the queries transposed, the normalised keys, the head weights transposed. -/
module

public import proofs.«01_k».proof.Proof.Run
public import proofs.«01_k».proof.Proof.KeyNorm
public import Idealize.ShloMosaic.Lib.StableHlo.RunRead
public import Idealize.ShloMosaic.Lib.MatmulPlain
public import Idealize.ShloMosaic.Lib.StackMember
public import Idealize.ShloMosaic.Lib.IdealHost
public import Idealize.ShloMosaic.Lib.Pointwise.Reduce
public import Idealize.ShloMosaic.Lib.ValueIdxCore
public import Idealize.ShloMosaic.Lib.Pipeline.Value

@[expose] public section

set_option maxRecDepth 16384

noncomputable section

namespace Cert.KernelIdeal.Hand

open Cert.KernelIdeal Cert.KernelIdeal.Gen
open Idealize.ShloMosaic hiding ix0 ix1 ix2 ix3
open Idealize.ShloMosaic.TcCoe Idealize.ShloMosaic.ValueIdx Idealize.ShloMosaic.StableHlo

/-- The queries, one column each. -/
def hQ (a1 : FVec Ideal S1x2048x1024 .f32) : FVec Ideal S1024x2048 .f32 :=
  transpose S1024x2048 [1, 0] (shapeCast S2048x1024 a1 shapeCasts_S1x2048x1024_S2048x1024) transposes_S2048x1024_S1024x2048_1_0

/-- The projected keys. -/
def hY (a0 : FVec Ideal S1x2048x1024 .f32) (a3 : FVec Ideal S64x1024 .f32) : FVec Ideal S2048x64 .f32 :=
  Host.dotGeneral dot_S2048x1024_S1024x64_S2048x64_1_0_0_1_n_n none (shapeCast S2048x1024 a0 shapeCasts_S1x2048x1024_S2048x1024)
    (transpose S1024x64 [1, 0] a3 transposes_S64x1024_S1024x64_1_0)

/-- The sum of each row, as a column. -/
def hSum (y : FVec Ideal S2048x64 .f32) : FVec Ideal S2048x1 .f32 :=
  broadcastInDim S2048x1 ![0] bcast_S2048_S2048x1_0 (Host.reduceAdd y (constant S_ .f32 0x00000000#32) reducesTo_S2048x64_S2048_d1 h_S_)

/-- A number, as a column. -/
def hCol {α : Type} (x : S_.Idx → α) : S2048x1.Idx → α := broadcastInDim S2048x1 ![] bcast_S_S2048x1 x

/-- A column, along every row. -/
def hRows (x : FVec Ideal S2048x1 .f32) : FVec Ideal S2048x64 .f32 := broadcastInDim S2048x64 ![0, 1] bcast_S2048x1_S2048x64_0_1 x

/-- A row, down every column. -/
def hCols (x : FVec Ideal S64 .f32) : FVec Ideal S2048x64 .f32 :=
  broadcastInDim S2048x64 ![0, 1] bcast_S1x64_S2048x64_0_1 (broadcastInDim S1x64 ![1] bcast_S64_S1x64_1 x)

/-- The rows less their means. -/
def hDev (y : FVec Ideal S2048x64 .f32) : FVec Ideal S2048x64 .f32 :=
  subf y (hRows (Host.divf (hSum y) (hCol (constant S_ .f32 0x42800000#32))))

/-- The number of a row's entries. -/
def hCount : FVec Ideal S_ .f32 := subf (constant S_ .f32 0x42800000#32) (sitofp .f32 (constantI S_ 32 0#32))

/-- The variances of the rows. -/
def hVar (y : FVec Ideal S2048x64 .f32) : FVec Ideal S2048x1 .f32 :=
  select (hCol (cmpf .ogt hCount (constant S_ .f32 0x00000000#32))) (Host.divf (hSum (mulf (hDev y) (hDev y))) (hCol hCount))
    (hCol (constant S_ .f32 0x7FC00000#32))

/-- The normalised keys. -/
def hK (y : FVec Ideal S2048x64 .f32) (g b : FVec Ideal S64 .f32) : FVec Ideal S2048x64 .f32 :=
  addf (mulf (Host.divf (hDev y) (hRows (Host.sqrt (addf (hVar y) (hCol (constant S_ .f32 0x3727C5AC#32)))))) (hCols g)) (hCols b)

/-- The head weights, one column per query. -/
def hW (a0 : FVec Ideal S1x2048x1024 .f32) (a6 : FVec Ideal S16x1024 .f32) : FVec Ideal S16x2048 .f32 :=
  transpose S16x2048 [1, 0]
    (mulf (Host.dotGeneral dot_S2048x1024_S1024x16_S2048x16_1_0_0_1_n_n none (shapeCast S2048x1024 a0 shapeCasts_S1x2048x1024_S2048x1024)
        (transpose S1024x16 [1, 0] a6 transposes_S16x1024_S1024x16_1_0))
      (broadcastInDim S2048x16 ![] bcast_S_S2048x16 (constant S_ .f32 0x3E800000#32))) transposes_S2048x16_S16x2048_1_0

variable (m : (ℓ : Loc nD τ sig) → Buf (Elt Ideal) ℓ)

theorem V_q (c : Dev nD) : V m c main_v2 = hQ (m ((c.tc : Thread nD τ).loc main_arg1)) := by
  unfold hQ
  show StableHlo.after (List.flatten [hostOps0, hostOps0_1, hostOps0_2]) (fun b => m (c, b)) (Proc.devRef .tc main_v2) = _
  simp only [hostOps0, hostOps0_1, hostOps0_2, TRef.binary, TRef.nullary, TRef.ternary, TRef.unary, TRef.toBuf, TRef.ofBuf, cast_eq, List.flatten, List.append, List.cons_append, List.nil_append, List.append_nil]
  after_results_simp <;> rfl

theorem V_k (c : Dev nD) : V m c main_v22 = hK (hY (m ((c.tc : Thread nD τ).loc main_arg0)) (m ((c.tc : Thread nD τ).loc main_arg3)))
    (m ((c.tc : Thread nD τ).loc main_arg4)) (m ((c.tc : Thread nD τ).loc main_arg5)) := by
  show StableHlo.after (List.flatten [hostOps0, hostOps0_1, hostOps0_2]) (fun b => m (c, b)) (Proc.devRef .tc main_v22) = _
  simp only [hostOps0, hostOps0_1, hostOps0_2, TRef.binary, TRef.nullary, TRef.ternary, TRef.unary, TRef.toBuf, TRef.ofBuf, cast_eq, List.flatten, List.append, List.cons_append, List.nil_append, List.append_nil]
  after_results_simp <;> rfl

theorem V_w (c : Dev nD) : V m c main_v27 = hW (m ((c.tc : Thread nD τ).loc main_arg0)) (m ((c.tc : Thread nD τ).loc main_arg6)) := by
  show StableHlo.after (List.flatten [hostOps0, hostOps0_1, hostOps0_2]) (fun b => m (c, b)) (Proc.devRef .tc main_v27) = _
  simp only [hostOps0, hostOps0_1, hostOps0_2, TRef.binary, TRef.nullary, TRef.ternary, TRef.unary, TRef.toBuf, TRef.ofBuf, cast_eq, List.flatten, List.append, List.cons_append, List.nil_append, List.append_nil]
  after_results_simp <;> rfl

theorem hQ_apply (a1 : FVec Ideal S1x2048x1024 .f32) (e : Fin 1024) (q : Fin 2048) : hQ a1 (ix2 e q) = a1 (ix3 (0 : Fin 1) q e) := by
  unfold hQ
  exact (transpose_apply _ _ _ (ix2 e q) (ix2 q e) (by intro a; fin_cases a <;> rfl)).trans
    (shapeCast_apply a1 _ (ix2 q e) (ix3 (0 : Fin 1) q e) (by rw [Shape.rowMajor_val_two, Shape.rowMajor_val_three]; simp))

theorem hY_apply (a0 : FVec Ideal S1x2048x1024 .f32) (a3 : FVec Ideal S64x1024 .f32) (i : Fin 2048) (d : Fin 64) :
    hY a0 a3 (ix2 i d) = ∑ e : Fin 1024, a0 (ix3 (0 : Fin 1) i e) * a3 (ix2 d e) := by
  refine Eq.trans (StackMember.dotGeneral_plain_apply (m := 2048) (k := 1024) (n := 64) none (shapeCast S2048x1024 a0 shapeCasts_S1x2048x1024_S2048x1024)
    (transpose S1024x64 [1, 0] a3 transposes_S64x1024_S1024x64_1_0) i d) (Finset.sum_congr rfl fun e _ => ?_)
  exact congrArg₂ (α := EReal) (β := EReal) (· * ·)
    (shapeCast_apply a0 _ (ix2 i e) (ix3 (0 : Fin 1) i e) (by rw [Shape.rowMajor_val_two, Shape.rowMajor_val_three]; simp))
    (transpose_apply _ a3 _ (ix2 e d) (ix2 d e) (by intro a; fin_cases a <;> rfl))

theorem hW_apply (a0 : FVec Ideal S1x2048x1024 .f32) (a6 : FVec Ideal S16x1024 .f32) (h : Fin 16) (q : Fin 2048) :
    hW a0 a6 (ix2 h q) = (∑ e : Fin 1024, a0 (ix3 (0 : Fin 1) q e) * a6 (ix2 h e)) * (FloatOps.ofBits (F := Ideal) .f32 0x3E800000#32 : EReal) := by
  unfold hW
  refine (transpose_apply _ _ _ (ix2 h q) (ix2 q h) (by intro a; fin_cases a <;> rfl)).trans ?_
  refine congrArg₂ (α := EReal) (β := EReal) (· * ·) ?_ rfl
  refine Eq.trans (StackMember.dotGeneral_plain_apply (m := 2048) (k := 1024) (n := 16) none (shapeCast S2048x1024 a0 shapeCasts_S1x2048x1024_S2048x1024)
    (transpose S1024x16 [1, 0] a6 transposes_S16x1024_S1024x16_1_0) q h) (Finset.sum_congr rfl fun e _ => ?_)
  exact congrArg₂ (α := EReal) (β := EReal) (· * ·)
    (shapeCast_apply a0 _ (ix2 q e) (ix3 (0 : Fin 1) q e) (by rw [Shape.rowMajor_val_two, Shape.rowMajor_val_three]; simp))
    (transpose_apply _ a6 _ (ix2 e h) (ix2 h e) (by intro a; fin_cases a <;> rfl))

theorem hSum_apply (y : FVec Ideal S2048x64 .f32) (i : Fin 2048) : hSum y (ix2 i (0 : Fin 1)) = rowSum fun d => y (ix2 i d) := by
  unfold hSum rowSum
  rw [broadcastInDim_apply _ _ _ _ (ix1 i) (by intro a; fin_cases a; rfl), hostReduceAdd_apply, Ideal.hostReduceAdd_r2_a1]
  rfl

theorem hCol_apply {α : Type} (x : S_.Idx → α) (i : Fin 2048) : hCol x (ix2 i (0 : Fin 1)) = x ix0 :=
  broadcastInDim_apply _ _ x _ ix0 fun a => a.elim0

theorem hRows_apply (x : FVec Ideal S2048x1 .f32) (i : Fin 2048) (d : Fin 64) : hRows x (ix2 i d) = x (ix2 i (0 : Fin 1)) := by
  unfold hRows
  rw [broadcastInDim_apply _ _ _ _ (ix2 i (0 : Fin 1)) (by intro a; fin_cases a <;> rfl)]

theorem hCols_apply (x : FVec Ideal S64 .f32) (i : Fin 2048) (d : Fin 64) : hCols x (ix2 i d) = x (ix1 d) := by
  unfold hCols
  rw [broadcastInDim_apply _ _ _ _ (ix2 (0 : Fin 1) d) (by intro a; fin_cases a <;> rfl),
    broadcastInDim_apply _ _ _ _ (ix1 d) (by intro a; fin_cases a; rfl)]

theorem hDev_apply (y : FVec Ideal S2048x64 .f32) (i : Fin 2048) (d : Fin 64) : hDev y (ix2 i d) = rowDev (fun d => y (ix2 i d)) d := by
  unfold hDev rowDev rowMean
  show FloatOps.subf (F := Ideal) (φ := .f32) (y (ix2 i d)) (hRows _ (ix2 i d)) = _
  rw [hRows_apply]
  show FloatOps.subf (F := Ideal) (φ := .f32) (y (ix2 i d)) (FloatOps.hostDivf (F := Ideal) (φ := .f32) (hSum y (ix2 i (0 : Fin 1))) _) = _
  rw [hSum_apply]
  rfl

theorem hVar_apply (y : FVec Ideal S2048x64 .f32) (i : Fin 2048) : hVar y (ix2 i (0 : Fin 1)) = rowVar fun d => y (ix2 i d) := by
  unfold hVar rowVar
  show Scalar.select (hCol (cmpf .ogt hCount (constant S_ .f32 0x00000000#32)) (ix2 i (0 : Fin 1)))
    (FloatOps.hostDivf (F := Ideal) (φ := .f32) (hSum (mulf (hDev y) (hDev y)) (ix2 i (0 : Fin 1))) (hCol hCount (ix2 i (0 : Fin 1))))
    (hCol (constant (F := Ideal) S_ .f32 0x7FC00000#32) (ix2 i (0 : Fin 1))) = _
  rw [hSum_apply, show (fun d => mulf (hDev y) (hDev y) (ix2 i d)) = fun d => FloatOps.mulf (F := Ideal) (φ := .f32)
      (rowDev (fun d => y (ix2 i d)) d) (rowDev (fun d => y (ix2 i d)) d) from funext fun d => by
    rw [← hDev_apply]; rfl]
  rfl

/-- The normalised keys, row by row. -/
theorem hK_apply (y : FVec Ideal S2048x64 .f32) (g b : FVec Ideal S64 .f32) (i : Fin 2048) (d : Fin 64) :
    hK y g b (ix2 i d) = rowNorm (fun d => y (ix2 i d)) (fun d => g (ix1 d)) (fun d => b (ix1 d)) d := by
  unfold hK rowNorm
  dsimp only
  rw [← hDev_apply, ← hVar_apply, ← hCols_apply g i d, ← hCols_apply b i d]
  show FloatOps.addf (F := Ideal) (φ := .f32) (FloatOps.mulf (F := Ideal) (φ := .f32) (FloatOps.hostDivf (F := Ideal) (φ := .f32) _
    (hRows _ (ix2 i d))) _) _ = _
  rw [hRows_apply]
  rfl

end Cert.KernelIdeal.Hand

end
-- ==== Proof.RefRead.lean ====
/- The reference, one operation at a time: `val_<buffer>` is the value an operation writes, `val_<buffer>_apply` reads it at an
   index from its operands. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.transpose %arg2, dims = [1, 0] : (tensor<1024x1024xf32>) -> tensor<1024x1024xf32>
def val_main_v0 (x2 : (⟨S1024x1024, .f32⟩ : BufTy).Contents (Elt F)) : (⟨S1024x1024, .f32⟩ : BufTy).Contents (Elt F) :=
  transpose S1024x1024 [1, 0] (x2) transposes_S1024x1024_S1024x1024_1_0
abbrev idx_main_v0 (i : S1024x1024.Idx) : S1024x1024.Idx := fun a => match a with
  | ⟨0, _⟩ => ⟨(i 1).val, (i 1).isLt⟩
  | ⟨1, _⟩ => ⟨(i 0).val, (i 0).isLt⟩
theorem val_main_v0_apply (x2 : (⟨S1024x1024, .f32⟩ : BufTy).Contents (Elt F)) (i : S1024x1024.Idx) :
    val_main_v0 (F := F) x2 i = x2 (idx_main_v0 i) := by
  unfold val_main_v0
  exact transpose_apply [1, 0] x2 transposes_S1024x1024_S1024x1024_1_0 i (idx_main_v0 i) (fun b => match b with
    | ⟨0, _⟩ => rfl
    | ⟨1, _⟩ => rfl)

-- %1 = stablehlo.dot_general %arg1, %0, contracting_dims = [2] x [0], precision = [DEFAULT, DEFAULT] : (tensor<1x2048x1024xf32>, tensor<1024x1024xf32>) -> tensor<1x2048x1024xf32>
def val_main_v1 (x1 : (⟨S1x2048x1024, .f32⟩ : BufTy).Contents (Elt F)) (x2 : (⟨S1024x1024, .f32⟩ : BufTy).Contents (Elt F)) : (⟨S1x2048x1024, .f32⟩ : BufTy).Contents (Elt F) :=
  Host.dotGeneral dot_S1x2048x1024_S1024x1024_S1x2048x1024_2_0_01_1_n_n none (x1) (val_main_v0 (F := F) x2)
theorem lhs_main_v1_0 (i : S1x2048x1024.Idx) (q : dot_S1x2048x1024_S1024x1024_S1x2048x1024_2_0_01_1_n_n.contr.Idx) :
    (dot_S1x2048x1024_S1024x1024_S1x2048x1024_2_0_01_1_n_n.lhsIdx i q 0).val = (i 0).val := by
  unfold DotDims.lhsIdx
  rw [dif_neg (show ¬(0 : Fin S1x2048x1024.rank) ∈ dot_S1x2048x1024_S1024x1024_S1x2048x1024_2_0_01_1_n_n.lhsBatch by decide), dif_pos (show (0 : Fin S1x2048x1024.rank) ∈ dot_S1x2048x1024_S1024x1024_S1x2048x1024_2_0_01_1_n_n.lhsNonContracting by decide)]
  rfl
theorem lhs_main_v1_1 (i : S1x2048x1024.Idx) (q : dot_S1x2048x1024_S1024x1024_S1x2048x1024_2_0_01_1_n_n.contr.Idx) :
    (dot_S1x2048x1024_S1024x1024_S1x2048x1024_2_0_01_1_n_n.lhsIdx i q 1).val = (i 1).val := by
  unfold DotDims.lhsIdx
  rw [dif_neg (show ¬(1 : Fin S1x2048x1024.rank) ∈ dot_S1x2048x1024_S1024x1024_S1x2048x1024_2_0_01_1_n_n.lhsBatch by decide), dif_pos (show (1 : Fin S1x2048x1024.rank) ∈ dot_S1x2048x1024_S1024x1024_S1x2048x1024_2_0_01_1_n_n.lhsNonContracting by decide)]
  rfl
theorem lhs_main_v1_2 (i : S1x2048x1024.Idx) (q : dot_S1x2048x1024_S1024x1024_S1x2048x1024_2_0_01_1_n_n.contr.Idx) :
    (dot_S1x2048x1024_S1024x1024_S1x2048x1024_2_0_01_1_n_n.lhsIdx i q 2).val = (q ⟨0, by decide⟩).val :=
  dot_S1x2048x1024_S1024x1024_S1x2048x1024_2_0_01_1_n_n.lhsIdx_val_of_single rfl i q
theorem rhs_main_v1_0 (i : S1x2048x1024.Idx) (q : dot_S1x2048x1024_S1024x1024_S1x2048x1024_2_0_01_1_n_n.contr.Idx) :
    (dot_S1x2048x1024_S1024x1024_S1x2048x1024_2_0_01_1_n_n.rhsIdx i q 0).val = (q ⟨0, by decide⟩).val :=
  dot_S1x2048x1024_S1024x1024_S1x2048x1024_2_0_01_1_n_n.rhsIdx_val_of_single rfl i q
theorem rhs_main_v1_1 (i : S1x2048x1024.Idx) (q : dot_S1x2048x1024_S1024x1024_S1x2048x1024_2_0_01_1_n_n.contr.Idx) :
    (dot_S1x2048x1024_S1024x1024_S1x2048x1024_2_0_01_1_n_n.rhsIdx i q 1).val = (i 2).val := by
  unfold DotDims.rhsIdx
  rw [dif_neg (show ¬(1 : Fin S1024x1024.rank) ∈ dot_S1x2048x1024_S1024x1024_S1x2048x1024_2_0_01_1_n_n.rhsBatch by decide), dif_pos (show (1 : Fin S1024x1024.rank) ∈ dot_S1x2048x1024_S1024x1024_S1x2048x1024_2_0_01_1_n_n.rhsNonContracting by decide)]
  rfl
abbrev lidx_main_v1 (i : S1x2048x1024.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v1 (i : S1x2048x1024.Idx) (k : Fin 1024) : S1024x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v1_apply (x1 : (⟨S1x2048x1024, .f32⟩ : BufTy).Contents (Elt Ideal)) (x2 : (⟨S1024x1024, .f32⟩ : BufTy).Contents (Elt Ideal)) (i : S1x2048x1024.Idx) :
    val_main_v1 (F := Ideal) x1 x2 i = ∑ k : Fin 1024, x1 (lidx_main_v1 i k) * (val_main_v0 (F := Ideal) x2) (ridx_main_v1 i k) := by
  unfold val_main_v1
  generalize val_main_v0 (F := Ideal) x2 = y0
  simp only [Host.dotGeneral]
  rw [Ideal.dotGeneral_apply, ← Equiv.sum_comp (ValueIdx.contrEquiv1 dot_S1x2048x1024_S1024x1024_S1x2048x1024_2_0_01_1_n_n 1024 rfl rfl).symm]
  refine Finset.sum_congr rfl fun k _ => ?_
  have hk := ValueIdx.contrEquiv1_symm_val dot_S1x2048x1024_S1024x1024_S1x2048x1024_2_0_01_1_n_n 1024 rfl rfl k
  have el : dot_S1x2048x1024_S1024x1024_S1x2048x1024_2_0_01_1_n_n.lhsIdx i ((ValueIdx.contrEquiv1 dot_S1x2048x1024_S1024x1024_S1x2048x1024_2_0_01_1_n_n 1024 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S1x2048x1024_S1024x1024_S1x2048x1024_2_0_01_1_n_n.rhsIdx i ((ValueIdx.contrEquiv1 dot_S1x2048x1024_S1024x1024_S1x2048x1024_2_0_01_1_n_n 1024 rfl rfl).symm k) = ridx_main_v1 i k := funext fun a => Fin.ext (by
    match a with
    | ⟨0, _⟩ => exact (rhs_main_v1_0 _ _).trans hk
    | ⟨1, _⟩ => exact rhs_main_v1_1 _ _)
  rw [el, er]

-- %2 = stablehlo.reshape %1 : (tensor<1x2048x1024xf32>) -> tensor<1x2048x16x64xf32>
def val_main_v2 (x1 : (⟨S1x2048x1024, .f32⟩ : BufTy).Contents (Elt F)) (x2 : (⟨S1024x1024, .f32⟩ : BufTy).Contents (Elt F)) : (⟨S1x2048x16x64, .f32⟩ : BufTy).Contents (Elt F) :=
  shapeCast _ (val_main_v1 (F := F) x1 x2) shapeCasts_S1x2048x1024_S1x2048x16x64
set_option backward.proofsInPublic true in
abbrev idx_main_v2 (i : S1x2048x16x64.Idx) : S1x2048x1024.Idx := fun a => match a with
  | ⟨0, _⟩ => ⟨0, Nat.one_pos⟩
  | ⟨1, _⟩ => ⟨((((i 0).val * 2048 + (i 1).val) * 16 + (i 2).val) * 64 + (i 3).val) / 1024 % 2048, by have h0 : (i 0).val < 1 := (i 0).isLt; have h1 : (i 1).val < 2048 := (i 1).isLt; have h2 : (i 2).val < 16 := (i 2).isLt; have h3 : (i 3).val < 64 := (i 3).isLt; show ((((i 0).val * 2048 + (i 1).val) * 16 + (i 2).val) * 64 + (i 3).val) / 1024 % 2048 < 2048; omega⟩
  | ⟨2, _⟩ => ⟨((((i 0).val * 2048 + (i 1).val) * 16 + (i 2).val) * 64 + (i 3).val) % 1024, by have h0 : (i 0).val < 1 := (i 0).isLt; have h1 : (i 1).val < 2048 := (i 1).isLt; have h2 : (i 2).val < 16 := (i 2).isLt; have h3 : (i 3).val < 64 := (i 3).isLt; show ((((i 0).val * 2048 + (i 1).val) * 16 + (i 2).val) * 64 + (i 3).val) % 1024 < 1024; omega⟩
theorem val_main_v2_apply (x1 : (⟨S1x2048x1024, .f32⟩ : BufTy).Contents (Elt F)) (x2 : (⟨S1024x1024, .f32⟩ : BufTy).Contents (Elt F)) (i : S1x2048x16x64.Idx) :
    val_main_v2 (F := F) x1 x2 i = val_main_v1 (F := F) x1 x2 (idx_main_v2 i) := by
  unfold val_main_v2
  generalize val_main_v1 (F := F) x1 x2 = y
  exact shapeCast_apply y shapeCasts_S1x2048x1024_S1x2048x16x64 i (idx_main_v2 i)
    (by rewrite [Shape.rowMajor_val_three, Shape.rowMajor_val_four]; have h0 : (i 0).val < 1 := (i 0).isLt; have h1 : (i 1).val < 2048 := (i 1).isLt; have h2 : (i 2).val < 16 := (i 2).isLt; have h3 : (i 3).val < 64 := (i 3).isLt; show (0 * 2048 + ((((i 0).val * 2048 + (i 1).val) * 16 + (i 2).val) * 64 + (i 3).val) / 1024 % 2048) * 1024 + ((((i 0).val * 2048 + (i 1).val) * 16 + (i 2).val) * 64 + (i 3).val) % 1024 = (((i 0).val * 2048 + (i 1).val) * 16 + (i 2).val) * 64 + (i 3).val; omega)

-- %3 = stablehlo.transpose %arg3, dims = [1, 0] : (tensor<64x1024xf32>) -> tensor<1024x64xf32>
def val_main_v3 (x3 : (⟨S64x1024, .f32⟩ : BufTy).Contents (Elt F)) : (⟨S1024x64, .f32⟩ : BufTy).Contents (Elt F) :=
  transpose S1024x64 [1, 0] (x3) transposes_S64x1024_S1024x64_1_0
abbrev idx_main_v3 (i : S1024x64.Idx) : S64x1024.Idx := fun a => match a with
  | ⟨0, _⟩ => ⟨(i 1).val, (i 1).isLt⟩
  | ⟨1, _⟩ => ⟨(i 0).val, (i 0).isLt⟩
theorem val_main_v3_apply (x3 : (⟨S64x1024, .f32⟩ : BufTy).Contents (Elt F)) (i : S1024x64.Idx) :
    val_main_v3 (F := F) x3 i = x3 (idx_main_v3 i) := by
  unfold val_main_v3
  exact transpose_apply [1, 0] x3 transposes_S64x1024_S1024x64_1_0 i (idx_main_v3 i) (fun b => match b with
    | ⟨0, _⟩ => rfl
    | ⟨1, _⟩ => rfl)

-- %4 = stablehlo.dot_general %arg0, %3, contracting_dims = [2] x [0], precision = [DEFAULT, DEFAULT] : (tensor<1x2048x1024xf32>, tensor<1024x64xf32>) -> tensor<1x2048x64xf32>
def val_main_v4 (x0 : (⟨S1x2048x1024, .f32⟩ : BufTy).Contents (Elt F)) (x3 : (⟨S64x1024, .f32⟩ : BufTy).Contents (Elt F)) : (⟨S1x2048x64, .f32⟩ : BufTy).Contents (Elt F) :=
  Host.dotGeneral dot_S1x2048x1024_S1024x64_S1x2048x64_2_0_01_1_n_n none (x0) (val_main_v3 (F := F) x3)
theorem lhs_main_v4_0 (i : S1x2048x64.Idx) (q : dot_S1x2048x1024_S1024x64_S1x2048x64_2_0_01_1_n_n.contr.Idx) :
    (dot_S1x2048x1024_S1024x64_S1x2048x64_2_0_01_1_n_n.lhsIdx i q 0).val = (i 0).val := by
  unfold DotDims.lhsIdx
  rw [dif_neg (show ¬(0 : Fin S1x2048x1024.rank) ∈ dot_S1x2048x1024_S1024x64_S1x2048x64_2_0_01_1_n_n.lhsBatch by decide), dif_pos (show (0 : Fin S1x2048x1024.rank) ∈ dot_S1x2048x1024_S1024x64_S1x2048x64_2_0_01_1_n_n.lhsNonContracting by decide)]
  rfl
theorem lhs_main_v4_1 (i : S1x2048x64.Idx) (q : dot_S1x2048x1024_S1024x64_S1x2048x64_2_0_01_1_n_n.contr.Idx) :
    (dot_S1x2048x1024_S1024x64_S1x2048x64_2_0_01_1_n_n.lhsIdx i q 1).val = (i 1).val := by
  unfold DotDims.lhsIdx
  rw [dif_neg (show ¬(1 : Fin S1x2048x1024.rank) ∈ dot_S1x2048x1024_S1024x64_S1x2048x64_2_0_01_1_n_n.lhsBatch by decide), dif_pos (show (1 : Fin S1x2048x1024.rank) ∈ dot_S1x2048x1024_S1024x64_S1x2048x64_2_0_01_1_n_n.lhsNonContracting by decide)]
  rfl
theorem lhs_main_v4_2 (i : S1x2048x64.Idx) (q : dot_S1x2048x1024_S1024x64_S1x2048x64_2_0_01_1_n_n.contr.Idx) :
    (dot_S1x2048x1024_S1024x64_S1x2048x64_2_0_01_1_n_n.lhsIdx i q 2).val = (q ⟨0, by decide⟩).val :=
  dot_S1x2048x1024_S1024x64_S1x2048x64_2_0_01_1_n_n.lhsIdx_val_of_single rfl i q
theorem rhs_main_v4_0 (i : S1x2048x64.Idx) (q : dot_S1x2048x1024_S1024x64_S1x2048x64_2_0_01_1_n_n.contr.Idx) :
    (dot_S1x2048x1024_S1024x64_S1x2048x64_2_0_01_1_n_n.rhsIdx i q 0).val = (q ⟨0, by decide⟩).val :=
  dot_S1x2048x1024_S1024x64_S1x2048x64_2_0_01_1_n_n.rhsIdx_val_of_single rfl i q
theorem rhs_main_v4_1 (i : S1x2048x64.Idx) (q : dot_S1x2048x1024_S1024x64_S1x2048x64_2_0_01_1_n_n.contr.Idx) :
    (dot_S1x2048x1024_S1024x64_S1x2048x64_2_0_01_1_n_n.rhsIdx i q 1).val = (i 2).val := by
  unfold DotDims.rhsIdx
  rw [dif_neg (show ¬(1 : Fin S1024x64.rank) ∈ dot_S1x2048x1024_S1024x64_S1x2048x64_2_0_01_1_n_n.rhsBatch by decide), dif_pos (show (1 : Fin S1024x64.rank) ∈ dot_S1x2048x1024_S1024x64_S1x2048x64_2_0_01_1_n_n.rhsNonContracting by decide)]
  rfl
abbrev lidx_main_v4 (i : S1x2048x64.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v4 (i : S1x2048x64.Idx) (k : Fin 1024) : S1024x64.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v4_apply (x0 : (⟨S1x2048x1024, .f32⟩ : BufTy).Contents (Elt Ideal)) (x3 : (⟨S64x1024, .f32⟩ : BufTy).Contents (Elt Ideal)) (i : S1x2048x64.Idx) :
    val_main_v4 (F := Ideal) x0 x3 i = ∑ k : Fin 1024, x0 (lidx_main_v4 i k) * (val_main_v3 (F := Ideal) x3) (ridx_main_v4 i k) := by
  unfold val_main_v4
  generalize val_main_v3 (F := Ideal) x3 = y0
  simp only [Host.dotGeneral]
  rw [Ideal.dotGeneral_apply, ← Equiv.sum_comp (ValueIdx.contrEquiv1 dot_S1x2048x1024_S1024x64_S1x2048x64_2_0_01_1_n_n 1024 rfl rfl).symm]
  refine Finset.sum_congr rfl fun k _ => ?_
  have hk := ValueIdx.contrEquiv1_symm_val dot_S1x2048x1024_S1024x64_S1x2048x64_2_0_01_1_n_n 1024 rfl rfl k
  have el : dot_S1x2048x1024_S1024x64_S1x2048x64_2_0_01_1_n_n.lhsIdx i ((ValueIdx.contrEquiv1 dot_S1x2048x1024_S1024x64_S1x2048x64_2_0_01_1_n_n 1024 rfl rfl).symm k) = lidx_main_v4 i k := funext fun a => Fin.ext (by
    match a with
    | ⟨0, _⟩ => exact lhs_main_v4_0 _ _
    | ⟨1, _⟩ => exact lhs_main_v4_1 _ _
    | ⟨2, _⟩ => exact (lhs_main_v4_2 _ _).trans hk)
  have er : dot_S1x2048x1024_S1024x64_S1x2048x64_2_0_01_1_n_n.rhsIdx i ((ValueIdx.contrEquiv1 dot_S1x2048x1024_S1024x64_S1x2048x64_2_0_01_1_n_n 1024 rfl rfl).symm k) = ridx_main_v4 i k := funext fun a => Fin.ext (by
    match a with
    | ⟨0, _⟩ => exact (rhs_main_v4_0 _ _).trans hk
    | ⟨1, _⟩ => exact rhs_main_v4_1 _ _)
  rw [el, er]

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %5 = stablehlo.reduce(%4 init: %cst) applies stablehlo.add across dimensions = [2] : (tensor<1x2048x64xf32>, tensor<f32>) -> tensor<1x2048xf32> {
def val_main_v5 (x0 : (⟨S1x2048x1024, .f32⟩ : BufTy).Contents (Elt F)) (x3 : (⟨S64x1024, .f32⟩ : BufTy).Contents (Elt F)) : (⟨S1x2048, .f32⟩ : BufTy).Contents (Elt F) :=
  Host.reduceAdd (val_main_v4 (F := F) x0 x3) (val_main_cst (F := F)) reducesTo_S1x2048x64_S1x2048_d2 h_S_
abbrev idx_main_v5 (i : S1x2048.Idx) (k : Fin 64) : S1x2048x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v5_apply (x0 : (⟨S1x2048x1024, .f32⟩ : BufTy).Contents (Elt Ideal)) (x3 : (⟨S64x1024, .f32⟩ : BufTy).Contents (Elt Ideal)) (i : S1x2048.Idx) :
    val_main_v5 (F := Ideal) x0 x3 i = (val_main_cst (F := Ideal)) (Shape.Idx.first h_S_) + ∑ k : Fin 64, (val_main_v4 (F := Ideal) x0 x3) (idx_main_v5 i k) := by
  unfold val_main_v5
  generalize val_main_v4 (F := Ideal) x0 x3 = y0
  simp only [Host.reduceAdd, Ideal.hostReduceAdd_def]
  rw [Ideal.hostReduceAdd_single reducesTo_S1x2048x64_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %6 = stablehlo.broadcast_in_dim %5, dims = [0, 1] : (tensor<1x2048xf32>) -> tensor<1x2048x1xf32>
def val_main_v6 (x0 : (⟨S1x2048x1024, .f32⟩ : BufTy).Contents (Elt F)) (x3 : (⟨S64x1024, .f32⟩ : BufTy).Contents (Elt F)) : (⟨S1x2048x1, .f32⟩ : BufTy).Contents (Elt F) :=
  broadcastInDim S1x2048x1 ![0, 1] bcast_S1x2048_S1x2048x1_0_1 (val_main_v5 (F := F) x0 x3)
abbrev idx_main_v6 (i : S1x2048x1.Idx) : S1x2048.Idx := fun a => match a with
  | ⟨0, _⟩ => ⟨0, Nat.one_pos⟩
  | ⟨1, _⟩ => ⟨(i 1).val, (i 1).isLt⟩
theorem val_main_v6_apply (x0 : (⟨S1x2048x1024, .f32⟩ : BufTy).Contents (Elt F)) (x3 : (⟨S64x1024, .f32⟩ : BufTy).Contents (Elt F)) (i : S1x2048x1.Idx) :
    val_main_v6 (F := F) x0 x3 i = val_main_v5 (F := F) x0 x3 (idx_main_v6 i) := by
  unfold val_main_v6
  generalize val_main_v5 (F := F) x0 x3 = y
  exact broadcastInDim_apply _ bcast_S1x2048_S1x2048x1_0_1 y i (idx_main_v6 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

-- %cst_0 = stablehlo.constant dense<6.400000e+01> : tensor<f32>
def val_main_cst_0 : (⟨S_, .f32⟩ : BufTy).Contents (Elt F) :=
  constant S_ .f32 0x42800000#32
theorem val_main_cst_0_apply (i : S_.Idx) :
    val_main_cst_0 (F := F) i = FloatOps.ofBits .f32 0x42800000#32 := rfl

-- %7 = stablehlo.broadcast_in_dim %cst_0, dims = [] : (tensor<f32>) -> tensor<1x2048x1xf32>
def val_main_v7 : (⟨S1x2048x1, .f32⟩ : BufTy).Contents (Elt F) :=
  broadcastInDim S1x2048x1 ![] bcast_S_S1x2048x1 (val_main_cst_0 (F := F))
abbrev idx_main_v7 (i : S1x2048x1.Idx) : S_.Idx := fun a => a.elim0
theorem val_main_v7_apply (i : S1x2048x1.Idx) :
    val_main_v7 (F := F) i = val_main_cst_0 (F := F) (idx_main_v7 i) := by
  unfold val_main_v7
  generalize val_main_cst_0 (F := F) = y
  exact broadcastInDim_apply _ bcast_S_S1x2048x1 y i (idx_main_v7 i) (fun a => a.elim0)

-- %8 = stablehlo.divide %6, %7 : tensor<1x2048x1xf32>
def val_main_v8 (x0 : (⟨S1x2048x1024, .f32⟩ : BufTy).Contents (Elt F)) (x3 : (⟨S64x1024, .f32⟩ : BufTy).Contents (Elt F)) : (⟨S1x2048x1, .f32⟩ : BufTy).Contents (Elt F) :=
  Host.divf (val_main_v6 (F := F) x0 x3) (val_main_v7 (F := F))
theorem val_main_v8_apply (x0 : (⟨S1x2048x1024, .f32⟩ : BufTy).Contents (Elt F)) (x3 : (⟨S64x1024, .f32⟩ : BufTy).Contents (Elt F)) (i : S1x2048x1.Idx) :
    val_main_v8 (F := F) x0 x3 i = FloatOps.hostDivf (val_main_v6 (F := F) x0 x3 i) (val_main_v7 (F := F) i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- @_var's %cst = stablehlo.constant dense<0.000000e+00> : tensor<f32>, in %9 = func.call @_var(…) (record main_call0)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- @_var's %0 = stablehlo.reduce(%arg0 init: %cst) applies stablehlo.add across dimensions = [2] : (tensor<1x2048x64xf32>, tensor<f32>) -> tensor<1x2048xf32> {, in %9 = func.call @_var(…) (record main_call0)
def val_main_call0_v0 (x0 : (⟨S1x2048x1024, .f32⟩ : BufTy).Contents (Elt F)) (x3 : (⟨S64x1024, .f32⟩ : BufTy).Contents (Elt F)) : (⟨S1x2048, .f32⟩ : BufTy).Contents (Elt F) :=
  Host.reduceAdd (val_main_v4 (F := F) x0 x3) (val_main_call0_cst (F := F)) reducesTo_S1x2048x64_S1x2048_d2 h_S_
abbrev idx_main_call0_v0 (i : S1x2048.Idx) (k : Fin 64) : S1x2048x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call0_v0_apply (x0 : (⟨S1x2048x1024, .f32⟩ : BufTy).Contents (Elt Ideal)) (x3 : (⟨S64x1024, .f32⟩ : BufTy).Contents (Elt Ideal)) (i : S1x2048.Idx) :
    val_main_call0_v0 (F := Ideal) x0 x3 i = (val_main_call0_cst (F := Ideal)) (Shape.Idx.first h_S_) + ∑ k : Fin 64, (val_main_v4 (F := Ideal) x0 x3) (idx_main_call0_v0 i k) := by
  unfold val_main_call0_v0
  generalize val_main_v4 (F := Ideal) x0 x3 = y0
  simp only [Host.reduceAdd, Ideal.hostReduceAdd_def]
  rw [Ideal.hostReduceAdd_single reducesTo_S1x2048x64_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- @_var's %1 = stablehlo.broadcast_in_dim %0, dims = [0, 1] : (tensor<1x2048xf32>) -> tensor<1x2048x1xf32>, in %9 = func.call @_var(…) (record main_call0)
def val_main_call0_v1 (x0 : (⟨S1x2048x1024, .f32⟩ : BufTy).Contents (Elt F)) (x3 : (⟨S64x1024, .f32⟩ : BufTy).Contents (Elt F)) : (⟨S1x2048x1, .f32⟩ : BufTy).Contents (Elt F) :=
  broadcastInDim S1x2048x1 ![0, 1] bcast_S1x2048_S1x2048x1_0_1 (val_main_call0_v0 (F := F) x0 x3)
abbrev idx_main_call0_v1 (i : S1x2048x1.Idx) : S1x2048.Idx := fun a => match a with
  | ⟨0, _⟩ => ⟨0, Nat.one_pos⟩
  | ⟨1, _⟩ => ⟨(i 1).val, (i 1).isLt⟩
theorem val_main_call0_v1_apply (x0 : (⟨S1x2048x1024, .f32⟩ : BufTy).Contents (Elt F)) (x3 : (⟨S64x1024, .f32⟩ : BufTy).Contents (Elt F)) (i : S1x2048x1.Idx) :
    val_main_call0_v1 (F := F) x0 x3 i = val_main_call0_v0 (F := F) x0 x3 (idx_main_call0_v1 i) := by
  unfold val_main_call0_v1
  generalize val_main_call0_v0 (F := F) x0 x3 = y
  exact broadcastInDim_apply _ bcast_S1x2048_S1x2048x1_0_1 y i (idx_main_call0_v1 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

-- @_var's %cst_0 = stablehlo.constant dense<6.400000e+01> : tensor<f32>, in %9 = func.call @_var(…) (record main_call0)
def val_main_call0_cst_0 : (⟨S_, .f32⟩ : BufTy).Contents (Elt F) :=
  constant S_ .f32 0x42800000#32
theorem val_main_call0_cst_0_apply (i : S_.Idx) :
    val_main_call0_cst_0 (F := F) i = FloatOps.ofBits .f32 0x42800000#32 := rfl

-- @_var's %2 = stablehlo.broadcast_in_dim %cst_0, dims = [] : (tensor<f32>) -> tensor<1x2048x1xf32>, in %9 = func.call @_var(…) (record main_call0)
def val_main_call0_v2 : (⟨S1x2048x1, .f32⟩ : BufTy).Contents (Elt F) :=
  broadcastInDim S1x2048x1 ![] bcast_S_S1x2048x1 (val_main_call0_cst_0 (F := F))
abbrev idx_main_call0_v2 (i : S1x2048x1.Idx) : S_.Idx := fun a => a.elim0
theorem val_main_call0_v2_apply (i : S1x2048x1.Idx) :
    val_main_call0_v2 (F := F) i = val_main_call0_cst_0 (F := F) (idx_main_call0_v2 i) := by
  unfold val_main_call0_v2
  generalize val_main_call0_cst_0 (F := F) = y
  exact broadcastInDim_apply _ bcast_S_S1x2048x1 y i (idx_main_call0_v2 i) (fun a => a.elim0)

-- @_var's %3 = stablehlo.divide %1, %2 : tensor<1x2048x1xf32>, in %9 = func.call @_var(…) (record main_call0)
def val_main_call0_v3 (x0 : (⟨S1x2048x1024, .f32⟩ : BufTy).Contents (Elt F)) (x3 : (⟨S64x1024, .f32⟩ : BufTy).Contents (Elt F)) : (⟨S1x2048x1, .f32⟩ : BufTy).Contents (Elt F) :=
  Host.divf (val_main_call0_v1 (F := F) x0 x3) (val_main_call0_v2 (F := F))
theorem val_main_call0_v3_apply (x0 : (⟨S1x2048x1024, .f32⟩ : BufTy).Contents (Elt F)) (x3 : (⟨S64x1024, .f32⟩ : BufTy).Contents (Elt F)) (i : S1x2048x1.Idx) :
    val_main_call0_v3 (F := F) x0 x3 i = FloatOps.hostDivf (val_main_call0_v1 (F := F) x0 x3 i) (val_main_call0_v2 (F := F) i) := rfl

-- @_var's %4 = stablehlo.broadcast_in_dim %3, dims = [0, 1, 2] : (tensor<1x2048x1xf32>) -> tensor<1x2048x64xf32>, in %9 = func.call @_var(…) (record main_call0)
def val_main_call0_v4 (x0 : (⟨S1x2048x1024, .f32⟩ : BufTy).Contents (Elt F)) (x3 : (⟨S64x1024, .f32⟩ : BufTy).Contents (Elt F)) : (⟨S1x2048x64, .f32⟩ : BufTy).Contents (Elt F) :=
  broadcastInDim S1x2048x64 ![0, 1, 2] bcast_S1x2048x1_S1x2048x64_0_1_2 (val_main_call0_v3 (F := F) x0 x3)
abbrev idx_main_call0_v4 (i : S1x2048x64.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩
theorem val_main_call0_v4_apply (x0 : (⟨S1x2048x1024, .f32⟩ : BufTy).Contents (Elt F)) (x3 : (⟨S64x1024, .f32⟩ : BufTy).Contents (Elt F)) (i : S1x2048x64.Idx) :
    val_main_call0_v4 (F := F) x0 x3 i = val_main_call0_v3 (F := F) x0 x3 (idx_main_call0_v4 i) := by
  unfold val_main_call0_v4
  generalize val_main_call0_v3 (F := F) x0 x3 = y
  exact broadcastInDim_apply _ bcast_S1x2048x1_S1x2048x64_0_1_2 y i (idx_main_call0_v4 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

-- @_var's %5 = stablehlo.subtract %arg0, %4 : tensor<1x2048x64xf32>, in %9 = func.call @_var(…) (record main_call0)
def val_main_call0_v5 (x0 : (⟨S1x2048x1024, .f32⟩ : BufTy).Contents (Elt F)) (x3 : (⟨S64x1024, .f32⟩ : BufTy).Contents (Elt F)) : (⟨S1x2048x64, .f32⟩ : BufTy).Contents (Elt F) :=
  subf (val_main_v4 (F := F) x0 x3) (val_main_call0_v4 (F := F) x0 x3)
theorem val_main_call0_v5_apply (x0 : (⟨S1x2048x1024, .f32⟩ : BufTy).Contents (Elt F)) (x3 : (⟨S64x1024, .f32⟩ : BufTy).Contents (Elt F)) (i : S1x2048x64.Idx) :
    val_main_call0_v5 (F := F) x0 x3 i = FloatOps.subf (val_main_v4 (F := F) x0 x3 i) (val_main_call0_v4 (F := F) x0 x3 i) := rfl

-- @_var's %6 = chlo.square %5 : tensor<1x2048x64xf32> -> tensor<1x2048x64xf32>, in %9 = func.call @_var(…) (record main_call0)
def val_main_call0_v6 (x0 : (⟨S1x2048x1024, .f32⟩ : BufTy).Contents (Elt F)) (x3 : (⟨S64x1024, .f32⟩ : BufTy).Contents (Elt F)) : (⟨S1x2048x64, .f32⟩ : BufTy).Contents (Elt F) :=
  mulf (val_main_call0_v5 (F := F) x0 x3) (val_main_call0_v5 (F := F) x0 x3)
theorem val_main_call0_v6_apply (x0 : (⟨S1x2048x1024, .f32⟩ : BufTy).Contents (Elt F)) (x3 : (⟨S64x1024, .f32⟩ : BufTy).Contents (Elt F)) (i : S1x2048x64.Idx) :
    val_main_call0_v6 (F := F) x0 x3 i = FloatOps.mulf (val_main_call0_v5 (F := F) x0 x3 i) (val_main_call0_v5 (F := F) x0 x3 i) := rfl

-- @_var's %7 = stablehlo.convert %arg1 : (tensor<i32>) -> tensor<f32>, in %9 = func.call @_var(…) (record main_call0)
def val_main_call0_v7 : (⟨S_, .f32⟩ : BufTy).Contents (Elt F) :=
  sitofp .f32 (val_main_c (F := F))
theorem val_main_call0_v7_apply (i : S_.Idx) :
    val_main_call0_v7 (F := F) i = FloatOps.sitofp .f32 (val_main_c (F := F) i) := rfl

-- @_var's %cst_1 = stablehlo.constant dense<6.400000e+01> : tensor<f32>, in %9 = func.call @_var(…) (record main_call0)
def val_main_call0_cst_1 : (⟨S_, .f32⟩ : BufTy).Contents (Elt F) :=
  constant S_ .f32 0x42800000#32
theorem val_main_call0_cst_1_apply (i : S_.Idx) :
    val_main_call0_cst_1 (F := F) i = FloatOps.ofBits .f32 0x42800000#32 := rfl

-- @_var's %8 = stablehlo.subtract %cst_1, %7 : tensor<f32>, in %9 = func.call @_var(…) (record main_call0)
def val_main_call0_v8 : (⟨S_, .f32⟩ : BufTy).Contents (Elt F) :=
  subf (val_main_call0_cst_1 (F := F)) (val_main_call0_v7 (F := F))
theorem val_main_call0_v8_apply (i : S_.Idx) :
    val_main_call0_v8 (F := F) i = FloatOps.subf (val_main_call0_cst_1 (F := F) i) (val_main_call0_v7 (F := F) i) := rfl

-- @_var's %cst_2 = stablehlo.constant dense<0.000000e+00> : tensor<f32>, in %9 = func.call @_var(…) (record main_call0)
def val_main_call0_cst_2 : (⟨S_, .f32⟩ : BufTy).Contents (Elt F) :=
  constant S_ .f32 0x00000000#32
theorem val_main_call0_cst_2_apply (i : S_.Idx) :
    val_main_call0_cst_2 (F := F) i = FloatOps.ofBits .f32 0x00000000#32 := rfl

-- @_var's %9 = stablehlo.reduce(%6 init: %cst_2) applies stablehlo.add across dimensions = [2] : (tensor<1x2048x64xf32>, tensor<f32>) -> tensor<1x2048xf32> {, in %9 = func.call @_var(…) (record main_call0)
def val_main_call0_v9 (x0 : (⟨S1x2048x1024, .f32⟩ : BufTy).Contents (Elt F)) (x3 : (⟨S64x1024, .f32⟩ : BufTy).Contents (Elt F)) : (⟨S1x2048, .f32⟩ : BufTy).Contents (Elt F) :=
  Host.reduceAdd (val_main_call0_v6 (F := F) x0 x3) (val_main_call0_cst_2 (F := F)) reducesTo_S1x2048x64_S1x2048_d2 h_S_
abbrev idx_main_call0_v9 (i : S1x2048.Idx) (k : Fin 64) : S1x2048x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call0_v9_apply (x0 : (⟨S1x2048x1024, .f32⟩ : BufTy).Contents (Elt Ideal)) (x3 : (⟨S64x1024, .f32⟩ : BufTy).Contents (Elt Ideal)) (i : S1x2048.Idx) :
    val_main_call0_v9 (F := Ideal) x0 x3 i = (val_main_call0_cst_2 (F := Ideal)) (Shape.Idx.first h_S_) + ∑ k : Fin 64, (val_main_call0_v6 (F := Ideal) x0 x3) (idx_main_call0_v9 i k) := by
  unfold val_main_call0_v9
  generalize val_main_call0_v6 (F := Ideal) x0 x3 = y0
  simp only [Host.reduceAdd, Ideal.hostReduceAdd_def]
  rw [Ideal.hostReduceAdd_single reducesTo_S1x2048x64_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- @_var's %10 = stablehlo.broadcast_in_dim %9, dims = [0, 1] : (tensor<1x2048xf32>) -> tensor<1x2048x1xf32>, in %9 = func.call @_var(…) (record main_call0)
def val_main_call0_v10 (x0 : (⟨S1x2048x1024, .f32⟩ : BufTy).Contents (Elt F)) (x3 : (⟨S64x1024, .f32⟩ : BufTy).Contents (Elt F)) : (⟨S1x2048x1, .f32⟩ : BufTy).Contents (Elt F) :=
  broadcastInDim S1x2048x1 ![0, 1] bcast_S1x2048_S1x2048x1_0_1 (val_main_call0_v9 (F := F) x0 x3)
abbrev idx_main_call0_v10 (i : S1x2048x1.Idx) : S1x2048.Idx := fun a => match a with
  | ⟨0, _⟩ => ⟨0, Nat.one_pos⟩
  | ⟨1, _⟩ => ⟨(i 1).val, (i 1).isLt⟩
theorem val_main_call0_v10_apply (x0 : (⟨S1x2048x1024, .f32⟩ : BufTy).Contents (Elt F)) (x3 : (⟨S64x1024, .f32⟩ : BufTy).Contents (Elt F)) (i : S1x2048x1.Idx) :
    val_main_call0_v10 (F := F) x0 x3 i = val_main_call0_v9 (F := F) x0 x3 (idx_main_call0_v10 i) := by
  unfold val_main_call0_v10
  generalize val_main_call0_v9 (F := F) x0 x3 = y
  exact broadcastInDim_apply _ bcast_S1x2048_S1x2048x1_0_1 y i (idx_main_call0_v10 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

-- @_var's %11 = stablehlo.broadcast_in_dim %8, dims = [] : (tensor<f32>) -> tensor<1x2048x1xf32>, in %9 = func.call @_var(…) (record main_call0)
def val_main_call0_v11 : (⟨S1x2048x1, .f32⟩ : BufTy).Contents (Elt F) :=
  broadcastInDim S1x2048x1 ![] bcast_S_S1x2048x1 (val_main_call0_v8 (F := F))
abbrev idx_main_call0_v11 (i : S1x2048x1.Idx) : S_.Idx := fun a => a.elim0
theorem val_main_call0_v11_apply (i : S1x2048x1.Idx) :
    val_main_call0_v11 (F := F) i = val_main_call0_v8 (F := F) (idx_main_call0_v11 i) := by
  unfold val_main_call0_v11
  generalize val_main_call0_v8 (F := F) = y
  exact broadcastInDim_apply _ bcast_S_S1x2048x1 y i (idx_main_call0_v11 i) (fun a => a.elim0)

-- @_var's %12 = stablehlo.divide %10, %11 : tensor<1x2048x1xf32>, in %9 = func.call @_var(…) (record main_call0)
def val_main_call0_v12 (x0 : (⟨S1x2048x1024, .f32⟩ : BufTy).Contents (Elt F)) (x3 : (⟨S64x1024, .f32⟩ : BufTy).Contents (Elt F)) : (⟨S1x2048x1, .f32⟩ : BufTy).Contents (Elt F) :=
  Host.divf (val_main_call0_v10 (F := F) x0 x3) (val_main_call0_v11 (F := F))
theorem val_main_call0_v12_apply (x0 : (⟨S1x2048x1024, .f32⟩ : BufTy).Contents (Elt F)) (x3 : (⟨S64x1024, .f32⟩ : BufTy).Contents (Elt F)) (i : S1x2048x1.Idx) :
    val_main_call0_v12 (F := F) x0 x3 i = FloatOps.hostDivf (val_main_call0_v10 (F := F) x0 x3 i) (val_main_call0_v11 (F := F) i) := rfl

-- @_var's %cst_3 = stablehlo.constant dense<0.000000e+00> : tensor<f32>, in %9 = func.call @_var(…) (record main_call0)
def val_main_call0_cst_3 : (⟨S_, .f32⟩ : BufTy).Contents (Elt F) :=
  constant S_ .f32 0x00000000#32
theorem val_main_call0_cst_3_apply (i : S_.Idx) :
    val_main_call0_cst_3 (F := F) i = FloatOps.ofBits .f32 0x00000000#32 := rfl

-- @_var's %13 = stablehlo.compare GT, %8, %cst_3, FLOAT : (tensor<f32>, tensor<f32>) -> tensor<i1>, in %9 = func.call @_var(…) (record main_call0)
def val_main_call0_v13 : (⟨S_, .i1⟩ : BufTy).Contents (Elt F) :=
  cmpf .ogt (val_main_call0_v8 (F := F)) (val_main_call0_cst_3 (F := F))
theorem val_main_call0_v13_apply (i : S_.Idx) :
    val_main_call0_v13 (F := F) i = FloatOps.cmpf .ogt (val_main_call0_v8 (F := F) i) (val_main_call0_cst_3 (F := F) i) := rfl

-- @_var's %cst_4 = stablehlo.constant dense<0x7FC00000> : tensor<f32>, in %9 = func.call @_var(…) (record main_call0)
def val_main_call0_cst_4 : (⟨S_, .f32⟩ : BufTy).Contents (Elt F) :=
  constant S_ .f32 0x7FC00000#32
theorem val_main_call0_cst_4_apply (i : S_.Idx) :
    val_main_call0_cst_4 (F := F) i = FloatOps.ofBits .f32 0x7FC00000#32 := rfl

-- @_where's %0 = stablehlo.convert %arg2 : tensor<f32>, in @_var's %14 = func.call @_where(…) (record main_call0_call0)
def val_main_call0_call0_v0 : (⟨S_, .f32⟩ : BufTy).Contents (Elt F) :=
  id (val_main_call0_cst_4 (F := F))
theorem val_main_call0_call0_v0_apply (i : S_.Idx) :
    val_main_call0_call0_v0 (F := F) i = (val_main_call0_cst_4 (F := F) i) := rfl

-- @_where's %1 = stablehlo.broadcast_in_dim %0, dims = [] : (tensor<f32>) -> tensor<1x2048x1xf32>, in @_var's %14 = func.call @_where(…) (record main_call0_call0)
def val_main_call0_call0_v1 : (⟨S1x2048x1, .f32⟩ : BufTy).Contents (Elt F) :=
  broadcastInDim S1x2048x1 ![] bcast_S_S1x2048x1 (val_main_call0_call0_v0 (F := F))
abbrev idx_main_call0_call0_v1 (i : S1x2048x1.Idx) : S_.Idx := fun a => a.elim0
theorem val_main_call0_call0_v1_apply (i : S1x2048x1.Idx) :
    val_main_call0_call0_v1 (F := F) i = val_main_call0_call0_v0 (F := F) (idx_main_call0_call0_v1 i) := by
  unfold val_main_call0_call0_v1
  generalize val_main_call0_call0_v0 (F := F) = y
  exact broadcastInDim_apply _ bcast_S_S1x2048x1 y i (idx_main_call0_call0_v1 i) (fun a => a.elim0)

-- @_var's %14 = func.call @_where(…) (record main_call0_call0) result 0: @_where's %2 = stablehlo.select %arg0, %arg1, %1 : tensor<i1>, tensor<1x2048x1xf32>
def val_main_v9 (x0 : (⟨S1x2048x1024, .f32⟩ : BufTy).Contents (Elt F)) (x3 : (⟨S64x1024, .f32⟩ : BufTy).Contents (Elt F)) : (⟨S1x2048x1, .f32⟩ : BufTy).Contents (Elt F) :=
  select (broadcastInDim S1x2048x1 ![] bcast_S_S1x2048x1 (val_main_call0_v13 (F := F))) (val_main_call0_v12 (F := F) x0 x3) (val_main_call0_call0_v1 (F := F))

-- %10 = stablehlo.broadcast_in_dim %8, dims = [0, 1, 2] : (tensor<1x2048x1xf32>) -> tensor<1x2048x64xf32>
def val_main_v10 (x0 : (⟨S1x2048x1024, .f32⟩ : BufTy).Contents (Elt F)) (x3 : (⟨S64x1024, .f32⟩ : BufTy).Contents (Elt F)) : (⟨S1x2048x64, .f32⟩ : BufTy).Contents (Elt F) :=
  broadcastInDim S1x2048x64 ![0, 1, 2] bcast_S1x2048x1_S1x2048x64_0_1_2 (val_main_v8 (F := F) x0 x3)
abbrev idx_main_v10 (i : S1x2048x64.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩
theorem val_main_v10_apply (x0 : (⟨S1x2048x1024, .f32⟩ : BufTy).Contents (Elt F)) (x3 : (⟨S64x1024, .f32⟩ : BufTy).Contents (Elt F)) (i : S1x2048x64.Idx) :
    val_main_v10 (F := F) x0 x3 i = val_main_v8 (F := F) x0 x3 (idx_main_v10 i) := by
  unfold val_main_v10
  generalize val_main_v8 (F := F) x0 x3 = y
  exact broadcastInDim_apply _ bcast_S1x2048x1_S1x2048x64_0_1_2 y i (idx_main_v10 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %11 = stablehlo.subtract %4, %10 : tensor<1x2048x64xf32>
def val_main_v11 (x0 : (⟨S1x2048x1024, .f32⟩ : BufTy).Contents (Elt F)) (x3 : (⟨S64x1024, .f32⟩ : BufTy).Contents (Elt F)) : (⟨S1x2048x64, .f32⟩ : BufTy).Contents (Elt F) :=
  subf (val_main_v4 (F := F) x0 x3) (val_main_v10 (F := F) x0 x3)
theorem val_main_v11_apply (x0 : (⟨S1x2048x1024, .f32⟩ : BufTy).Contents (Elt F)) (x3 : (⟨S64x1024, .f32⟩ : BufTy).Contents (Elt F)) (i : S1x2048x64.Idx) :
    val_main_v11 (F := F) x0 x3 i = FloatOps.subf (val_main_v4 (F := F) x0 x3 i) (val_main_v10 (F := F) x0 x3 i) := rfl

-- %cst_1 = stablehlo.constant dense<9.99999974E-6> : tensor<f32>
def val_main_cst_1 : (⟨S_, .f32⟩ : BufTy).Contents (Elt F) :=
  constant S_ .f32 0x3727C5AC#32
theorem val_main_cst_1_apply (i : S_.Idx) :
    val_main_cst_1 (F := F) i = FloatOps.ofBits .f32 0x3727C5AC#32 := rfl

-- %12 = stablehlo.broadcast_in_dim %cst_1, dims = [] : (tensor<f32>) -> tensor<1x2048x1xf32>
def val_main_v12 : (⟨S1x2048x1, .f32⟩ : BufTy).Contents (Elt F) :=
  broadcastInDim S1x2048x1 ![] bcast_S_S1x2048x1 (val_main_cst_1 (F := F))
abbrev idx_main_v12 (i : S1x2048x1.Idx) : S_.Idx := fun a => a.elim0
theorem val_main_v12_apply (i : S1x2048x1.Idx) :
    val_main_v12 (F := F) i = val_main_cst_1 (F := F) (idx_main_v12 i) := by
  unfold val_main_v12
  generalize val_main_cst_1 (F := F) = y
  exact broadcastInDim_apply _ bcast_S_S1x2048x1 y i (idx_main_v12 i) (fun a => a.elim0)

-- %13 = stablehlo.add %9, %12 : tensor<1x2048x1xf32>
def val_main_v13 (x0 : (⟨S1x2048x1024, .f32⟩ : BufTy).Contents (Elt F)) (x3 : (⟨S64x1024, .f32⟩ : BufTy).Contents (Elt F)) : (⟨S1x2048x1, .f32⟩ : BufTy).Contents (Elt F) :=
  addf (val_main_v9 (F := F) x0 x3) (val_main_v12 (F := F))
theorem val_main_v13_apply (x0 : (⟨S1x2048x1024, .f32⟩ : BufTy).Contents (Elt F)) (x3 : (⟨S64x1024, .f32⟩ : BufTy).Contents (Elt F)) (i : S1x2048x1.Idx) :
    val_main_v13 (F := F) x0 x3 i = FloatOps.addf (val_main_v9 (F := F) x0 x3 i) (val_main_v12 (F := F) i) := rfl

-- %14 = stablehlo.sqrt %13 : tensor<1x2048x1xf32>
def val_main_v14 (x0 : (⟨S1x2048x1024, .f32⟩ : BufTy).Contents (Elt F)) (x3 : (⟨S64x1024, .f32⟩ : BufTy).Contents (Elt F)) : (⟨S1x2048x1, .f32⟩ : BufTy).Contents (Elt F) :=
  Host.sqrt (val_main_v13 (F := F) x0 x3)
theorem val_main_v14_apply (x0 : (⟨S1x2048x1024, .f32⟩ : BufTy).Contents (Elt F)) (x3 : (⟨S64x1024, .f32⟩ : BufTy).Contents (Elt F)) (i : S1x2048x1.Idx) :
    val_main_v14 (F := F) x0 x3 i = FloatOps.hostUnary .sqrt (val_main_v13 (F := F) x0 x3 i) := rfl

-- %15 = stablehlo.broadcast_in_dim %14, dims = [0, 1, 2] : (tensor<1x2048x1xf32>) -> tensor<1x2048x64xf32>
def val_main_v15 (x0 : (⟨S1x2048x1024, .f32⟩ : BufTy).Contents (Elt F)) (x3 : (⟨S64x1024, .f32⟩ : BufTy).Contents (Elt F)) : (⟨S1x2048x64, .f32⟩ : BufTy).Contents (Elt F) :=
  broadcastInDim S1x2048x64 ![0, 1, 2] bcast_S1x2048x1_S1x2048x64_0_1_2 (val_main_v14 (F := F) x0 x3)
abbrev idx_main_v15 (i : S1x2048x64.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩
theorem val_main_v15_apply (x0 : (⟨S1x2048x1024, .f32⟩ : BufTy).Contents (Elt F)) (x3 : (⟨S64x1024, .f32⟩ : BufTy).Contents (Elt F)) (i : S1x2048x64.Idx) :
    val_main_v15 (F := F) x0 x3 i = val_main_v14 (F := F) x0 x3 (idx_main_v15 i) := by
  unfold val_main_v15
  generalize val_main_v14 (F := F) x0 x3 = y
  exact broadcastInDim_apply _ bcast_S1x2048x1_S1x2048x64_0_1_2 y i (idx_main_v15 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %16 = stablehlo.divide %11, %15 : tensor<1x2048x64xf32>
def val_main_v16 (x0 : (⟨S1x2048x1024, .f32⟩ : BufTy).Contents (Elt F)) (x3 : (⟨S64x1024, .f32⟩ : BufTy).Contents (Elt F)) : (⟨S1x2048x64, .f32⟩ : BufTy).Contents (Elt F) :=
  Host.divf (val_main_v11 (F := F) x0 x3) (val_main_v15 (F := F) x0 x3)
theorem val_main_v16_apply (x0 : (⟨S1x2048x1024, .f32⟩ : BufTy).Contents (Elt F)) (x3 : (⟨S64x1024, .f32⟩ : BufTy).Contents (Elt F)) (i : S1x2048x64.Idx) :
    val_main_v16 (F := F) x0 x3 i = FloatOps.hostDivf (val_main_v11 (F := F) x0 x3 i) (val_main_v15 (F := F) x0 x3 i) := rfl

-- %17 = stablehlo.broadcast_in_dim %arg4, dims = [2] : (tensor<64xf32>) -> tensor<1x1x64xf32>
def val_main_v17 (x4 : (⟨S64, .f32⟩ : BufTy).Contents (Elt F)) : (⟨S1x1x64, .f32⟩ : BufTy).Contents (Elt F) :=
  broadcastInDim S1x1x64 ![2] bcast_S64_S1x1x64_2 (x4)
abbrev idx_main_v17 (i : S1x1x64.Idx) : S64.Idx := fun a => match a with
  | ⟨0, _⟩ => ⟨(i 2).val, (i 2).isLt⟩
theorem val_main_v17_apply (x4 : (⟨S64, .f32⟩ : BufTy).Contents (Elt F)) (i : S1x1x64.Idx) :
    val_main_v17 (F := F) x4 i = x4 (idx_main_v17 i) := by
  unfold val_main_v17
  exact broadcastInDim_apply _ bcast_S64_S1x1x64_2 x4 i (idx_main_v17 i) (fun a => match a with
    | ⟨0, _⟩ => by show (i 2).val = if (64 : Nat) = 1 then 0 else (i 2).val; rw [if_neg (by decide)])

-- %18 = stablehlo.broadcast_in_dim %17, dims = [0, 1, 2] : (tensor<1x1x64xf32>) -> tensor<1x2048x64xf32>
def val_main_v18 (x4 : (⟨S64, .f32⟩ : BufTy).Contents (Elt F)) : (⟨S1x2048x64, .f32⟩ : BufTy).Contents (Elt F) :=
  broadcastInDim S1x2048x64 ![0, 1, 2] bcast_S1x1x64_S1x2048x64_0_1_2 (val_main_v17 (F := F) x4)
abbrev idx_main_v18 (i : S1x2048x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩
theorem val_main_v18_apply (x4 : (⟨S64, .f32⟩ : BufTy).Contents (Elt F)) (i : S1x2048x64.Idx) :
    val_main_v18 (F := F) x4 i = val_main_v17 (F := F) x4 (idx_main_v18 i) := by
  unfold val_main_v18
  generalize val_main_v17 (F := F) x4 = y
  exact broadcastInDim_apply _ bcast_S1x1x64_S1x2048x64_0_1_2 y i (idx_main_v18 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

-- %19 = stablehlo.multiply %16, %18 : tensor<1x2048x64xf32>
def val_main_v19 (x0 : (⟨S1x2048x1024, .f32⟩ : BufTy).Contents (Elt F)) (x3 : (⟨S64x1024, .f32⟩ : BufTy).Contents (Elt F)) (x4 : (⟨S64, .f32⟩ : BufTy).Contents (Elt F)) : (⟨S1x2048x64, .f32⟩ : BufTy).Contents (Elt F) :=
  mulf (val_main_v16 (F := F) x0 x3) (val_main_v18 (F := F) x4)
theorem val_main_v19_apply (x0 : (⟨S1x2048x1024, .f32⟩ : BufTy).Contents (Elt F)) (x3 : (⟨S64x1024, .f32⟩ : BufTy).Contents (Elt F)) (x4 : (⟨S64, .f32⟩ : BufTy).Contents (Elt F)) (i : S1x2048x64.Idx) :
    val_main_v19 (F := F) x0 x3 x4 i = FloatOps.mulf (val_main_v16 (F := F) x0 x3 i) (val_main_v18 (F := F) x4 i) := rfl

-- %20 = stablehlo.broadcast_in_dim %arg5, dims = [2] : (tensor<64xf32>) -> tensor<1x1x64xf32>
def val_main_v20 (x5 : (⟨S64, .f32⟩ : BufTy).Contents (Elt F)) : (⟨S1x1x64, .f32⟩ : BufTy).Contents (Elt F) :=
  broadcastInDim S1x1x64 ![2] bcast_S64_S1x1x64_2 (x5)
abbrev idx_main_v20 (i : S1x1x64.Idx) : S64.Idx := fun a => match a with
  | ⟨0, _⟩ => ⟨(i 2).val, (i 2).isLt⟩
theorem val_main_v20_apply (x5 : (⟨S64, .f32⟩ : BufTy).Contents (Elt F)) (i : S1x1x64.Idx) :
    val_main_v20 (F := F) x5 i = x5 (idx_main_v20 i) := by
  unfold val_main_v20
  exact broadcastInDim_apply _ bcast_S64_S1x1x64_2 x5 i (idx_main_v20 i) (fun a => match a with
    | ⟨0, _⟩ => by show (i 2).val = if (64 : Nat) = 1 then 0 else (i 2).val; rw [if_neg (by decide)])

-- %21 = stablehlo.broadcast_in_dim %20, dims = [0, 1, 2] : (tensor<1x1x64xf32>) -> tensor<1x2048x64xf32>
def val_main_v21 (x5 : (⟨S64, .f32⟩ : BufTy).Contents (Elt F)) : (⟨S1x2048x64, .f32⟩ : BufTy).Contents (Elt F) :=
  broadcastInDim S1x2048x64 ![0, 1, 2] bcast_S1x1x64_S1x2048x64_0_1_2 (val_main_v20 (F := F) x5)
abbrev idx_main_v21 (i : S1x2048x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩
theorem val_main_v21_apply (x5 : (⟨S64, .f32⟩ : BufTy).Contents (Elt F)) (i : S1x2048x64.Idx) :
    val_main_v21 (F := F) x5 i = val_main_v20 (F := F) x5 (idx_main_v21 i) := by
  unfold val_main_v21
  generalize val_main_v20 (F := F) x5 = y
  exact broadcastInDim_apply _ bcast_S1x1x64_S1x2048x64_0_1_2 y i (idx_main_v21 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

-- %22 = stablehlo.add %19, %21 : tensor<1x2048x64xf32>
def val_main_v22 (x0 : (⟨S1x2048x1024, .f32⟩ : BufTy).Contents (Elt F)) (x3 : (⟨S64x1024, .f32⟩ : BufTy).Contents (Elt F)) (x4 x5 : (⟨S64, .f32⟩ : BufTy).Contents (Elt F)) : (⟨S1x2048x64, .f32⟩ : BufTy).Contents (Elt F) :=
  addf (val_main_v19 (F := F) x0 x3 x4) (val_main_v21 (F := F) x5)
theorem val_main_v22_apply (x0 : (⟨S1x2048x1024, .f32⟩ : BufTy).Contents (Elt F)) (x3 : (⟨S64x1024, .f32⟩ : BufTy).Contents (Elt F)) (x4 x5 : (⟨S64, .f32⟩ : BufTy).Contents (Elt F)) (i : S1x2048x64.Idx) :
    val_main_v22 (F := F) x0 x3 x4 x5 i = FloatOps.addf (val_main_v19 (F := F) x0 x3 x4 i) (val_main_v21 (F := F) x5 i) := rfl

-- %23 = stablehlo.dot_general %2, %22, batching_dims = [0] x [0], contracting_dims = [3] x [2], precision = [DEFAULT, DEFAULT] : (tensor<1x2048x16x64xf32>, tensor<1x2048x64xf32>) -> tensor<1x2048x16x2048xf32>
def val_main_v23 (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) : (⟨S1x2048x16x2048, .f32⟩ : BufTy).Contents (Elt F) :=
  Host.dotGeneral dot_S1x2048x16x64_S1x2048x64_S1x2048x16x2048_3_2_12_1_0_0 none (val_main_v2 (F := F) x1 x2) (val_main_v22 (F := F) x0 x3 x4 x5)
theorem lhs_main_v23_0 (i : S1x2048x16x2048.Idx) (q : dot_S1x2048x16x64_S1x2048x64_S1x2048x16x2048_3_2_12_1_0_0.contr.Idx) :
    (dot_S1x2048x16x64_S1x2048x64_S1x2048x16x2048_3_2_12_1_0_0.lhsIdx i q 0).val = (i 0).val := by
  unfold DotDims.lhsIdx
  rw [dif_pos (show (0 : Fin S1x2048x16x64.rank) ∈ dot_S1x2048x16x64_S1x2048x64_S1x2048x16x2048_3_2_12_1_0_0.lhsBatch by decide)]
  rfl
theorem lhs_main_v23_1 (i : S1x2048x16x2048.Idx) (q : dot_S1x2048x16x64_S1x2048x64_S1x2048x16x2048_3_2_12_1_0_0.contr.Idx) :
    (dot_S1x2048x16x64_S1x2048x64_S1x2048x16x2048_3_2_12_1_0_0.lhsIdx i q 1).val = (i 1).val := by
  unfold DotDims.lhsIdx
  rw [dif_neg (show ¬(1 : Fin S1x2048x16x64.rank) ∈ dot_S1x2048x16x64_S1x2048x64_S1x2048x16x2048_3_2_12_1_0_0.lhsBatch by decide), dif_pos (show (1 : Fin S1x2048x16x64.rank) ∈ dot_S1x2048x16x64_S1x2048x64_S1x2048x16x2048_3_2_12_1_0_0.lhsNonContracting by decide)]
  rfl
theorem lhs_main_v23_2 (i : S1x2048x16x2048.Idx) (q : dot_S1x2048x16x64_S1x2048x64_S1x2048x16x2048_3_2_12_1_0_0.contr.Idx) :
    (dot_S1x2048x16x64_S1x2048x64_S1x2048x16x2048_3_2_12_1_0_0.lhsIdx i q 2).val = (i 2).val := by
  unfold DotDims.lhsIdx
  rw [dif_neg (show ¬(2 : Fin S1x2048x16x64.rank) ∈ dot_S1x2048x16x64_S1x2048x64_S1x2048x16x2048_3_2_12_1_0_0.lhsBatch by decide), dif_pos (show (2 : Fin S1x2048x16x64.rank) ∈ dot_S1x2048x16x64_S1x2048x64_S1x2048x16x2048_3_2_12_1_0_0.lhsNonContracting by decide)]
  rfl
theorem lhs_main_v23_3 (i : S1x2048x16x2048.Idx) (q : dot_S1x2048x16x64_S1x2048x64_S1x2048x16x2048_3_2_12_1_0_0.contr.Idx) :
    (dot_S1x2048x16x64_S1x2048x64_S1x2048x16x2048_3_2_12_1_0_0.lhsIdx i q 3).val = (q ⟨0, by decide⟩).val :=
  dot_S1x2048x16x64_S1x2048x64_S1x2048x16x2048_3_2_12_1_0_0.lhsIdx_val_of_single rfl i q
theorem rhs_main_v23_0 (i : S1x2048x16x2048.Idx) (q : dot_S1x2048x16x64_S1x2048x64_S1x2048x16x2048_3_2_12_1_0_0.contr.Idx) :
    (dot_S1x2048x16x64_S1x2048x64_S1x2048x16x2048_3_2_12_1_0_0.rhsIdx i q 0).val = (i 0).val := by
  unfold DotDims.rhsIdx
  rw [dif_pos (show (0 : Fin S1x2048x64.rank) ∈ dot_S1x2048x16x64_S1x2048x64_S1x2048x16x2048_3_2_12_1_0_0.rhsBatch by decide)]
  rfl
theorem rhs_main_v23_1 (i : S1x2048x16x2048.Idx) (q : dot_S1x2048x16x64_S1x2048x64_S1x2048x16x2048_3_2_12_1_0_0.contr.Idx) :
    (dot_S1x2048x16x64_S1x2048x64_S1x2048x16x2048_3_2_12_1_0_0.rhsIdx i q 1).val = (i 3).val := by
  unfold DotDims.rhsIdx
  rw [dif_neg (show ¬(1 : Fin S1x2048x64.rank) ∈ dot_S1x2048x16x64_S1x2048x64_S1x2048x16x2048_3_2_12_1_0_0.rhsBatch by decide), dif_pos (show (1 : Fin S1x2048x64.rank) ∈ dot_S1x2048x16x64_S1x2048x64_S1x2048x16x2048_3_2_12_1_0_0.rhsNonContracting by decide)]
  rfl
theorem rhs_main_v23_2 (i : S1x2048x16x2048.Idx) (q : dot_S1x2048x16x64_S1x2048x64_S1x2048x16x2048_3_2_12_1_0_0.contr.Idx) :
    (dot_S1x2048x16x64_S1x2048x64_S1x2048x16x2048_3_2_12_1_0_0.rhsIdx i q 2).val = (q ⟨0, by decide⟩).val :=
  dot_S1x2048x16x64_S1x2048x64_S1x2048x16x2048_3_2_12_1_0_0.rhsIdx_val_of_single rfl i q
abbrev lidx_main_v23 (i : S1x2048x16x2048.Idx) (k : Fin 64) : S1x2048x16x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v23 (i : S1x2048x16x2048.Idx) (k : Fin 64) : S1x2048x64.Idx := fun a => match a with
  | ⟨0, _⟩ => ⟨(i 0).val, (i 0).isLt⟩
  | ⟨1, _⟩ => ⟨(i 3).val, (i 3).isLt⟩
  | ⟨2, _⟩ => ⟨k.val, k.isLt⟩
/-- Stated at `F := Ideal`, where the host's `dot_general` is this sum; at a bit-exact instance it is an opaque function of its operands. -/
theorem val_main_v23_apply (x0 x1 : (⟨S1x2048x1024, .f32⟩ : BufTy).Contents (Elt Ideal)) (x2 : (⟨S1024x1024, .f32⟩ : BufTy).Contents (Elt Ideal)) (x3 : (⟨S64x1024, .f32⟩ : BufTy).Contents (Elt Ideal)) (x4 x5 : (⟨S64, .f32⟩ : BufTy).Contents (Elt Ideal)) (i : S1x2048x16x2048.Idx) :
    val_main_v23 (F := Ideal) x0 x1 x2 x3 x4 x5 i = ∑ k : Fin 64, (val_main_v2 (F := Ideal) x1 x2) (lidx_main_v23 i k) * (val_main_v22 (F := Ideal) x0 x3 x4 x5) (ridx_main_v23 i k) := by
  unfold val_main_v23
  generalize val_main_v2 (F := Ideal) x1 x2 = y0
  generalize val_main_v22 (F := Ideal) x0 x3 x4 x5 = y1
  simp only [Host.dotGeneral]
  rw [Ideal.dotGeneral_apply, ← Equiv.sum_comp (ValueIdx.contrEquiv1 dot_S1x2048x16x64_S1x2048x64_S1x2048x16x2048_3_2_12_1_0_0 64 rfl rfl).symm]
  refine Finset.sum_congr rfl fun k _ => ?_
  have hk := ValueIdx.contrEquiv1_symm_val dot_S1x2048x16x64_S1x2048x64_S1x2048x16x2048_3_2_12_1_0_0 64 rfl rfl k
  have el : dot_S1x2048x16x64_S1x2048x64_S1x2048x16x2048_3_2_12_1_0_0.lhsIdx i ((ValueIdx.contrEquiv1 dot_S1x2048x16x64_S1x2048x64_S1x2048x16x2048_3_2_12_1_0_0 64 rfl rfl).symm k) = lidx_main_v23 i k := funext fun a => Fin.ext (by
    match a with
    | ⟨0, _⟩ => exact lhs_main_v23_0 _ _
    | ⟨1, _⟩ => exact lhs_main_v23_1 _ _
    | ⟨2, _⟩ => exact lhs_main_v23_2 _ _
    | ⟨3, _⟩ => exact (lhs_main_v23_3 _ _).trans hk)
  have er : dot_S1x2048x16x64_S1x2048x64_S1x2048x16x2048_3_2_12_1_0_0.rhsIdx i ((ValueIdx.contrEquiv1 dot_S1x2048x16x64_S1x2048x64_S1x2048x16x2048_3_2_12_1_0_0 64 rfl rfl).symm k) = ridx_main_v23 i k := funext fun a => Fin.ext (by
    match a with
    | ⟨0, _⟩ => exact rhs_main_v23_0 _ _
    | ⟨1, _⟩ => exact rhs_main_v23_1 _ _
    | ⟨2, _⟩ => exact (rhs_main_v23_2 _ _).trans hk)
  rw [el, er]

-- %cst_2 = stablehlo.constant dense<1.250000e-01> : tensor<f32>
def val_main_cst_2 : (⟨S_, .f32⟩ : BufTy).Contents (Elt F) :=
  constant S_ .f32 0x3E000000#32
theorem val_main_cst_2_apply (i : S_.Idx) :
    val_main_cst_2 (F := F) i = FloatOps.ofBits .f32 0x3E000000#32 := rfl

-- %24 = stablehlo.broadcast_in_dim %cst_2, dims = [] : (tensor<f32>) -> tensor<1x2048x16x2048xf32>
def val_main_v24 : (⟨S1x2048x16x2048, .f32⟩ : BufTy).Contents (Elt F) :=
  broadcastInDim S1x2048x16x2048 ![] bcast_S_S1x2048x16x2048 (val_main_cst_2 (F := F))
abbrev idx_main_v24 (i : S1x2048x16x2048.Idx) : S_.Idx := fun a => a.elim0
theorem val_main_v24_apply (i : S1x2048x16x2048.Idx) :
    val_main_v24 (F := F) i = val_main_cst_2 (F := F) (idx_main_v24 i) := by
  unfold val_main_v24
  generalize val_main_cst_2 (F := F) = y
  exact broadcastInDim_apply _ bcast_S_S1x2048x16x2048 y i (idx_main_v24 i) (fun a => a.elim0)

-- %25 = stablehlo.multiply %23, %24 : tensor<1x2048x16x2048xf32>
def val_main_v25 (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) : (⟨S1x2048x16x2048, .f32⟩ : BufTy).Contents (Elt F) :=
  mulf (val_main_v23 (F := F) x0 x1 x2 x3 x4 x5) (val_main_v24 (F := F))
theorem val_main_v25_apply (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (i : S1x2048x16x2048.Idx) :
    val_main_v25 (F := F) x0 x1 x2 x3 x4 x5 i = FloatOps.mulf (val_main_v23 (F := F) x0 x1 x2 x3 x4 x5 i) (val_main_v24 (F := F) i) := rfl

-- %26 = stablehlo.transpose %arg6, dims = [1, 0] : (tensor<16x1024xf32>) -> tensor<1024x16xf32>
def val_main_v26 (x6 : (⟨S16x1024, .f32⟩ : BufTy).Contents (Elt F)) : (⟨S1024x16, .f32⟩ : BufTy).Contents (Elt F) :=
  transpose S1024x16 [1, 0] (x6) transposes_S16x1024_S1024x16_1_0
abbrev idx_main_v26 (i : S1024x16.Idx) : S16x1024.Idx := fun a => match a with
  | ⟨0, _⟩ => ⟨(i 1).val, (i 1).isLt⟩
  | ⟨1, _⟩ => ⟨(i 0).val, (i 0).isLt⟩
theorem val_main_v26_apply (x6 : (⟨S16x1024, .f32⟩ : BufTy).Contents (Elt F)) (i : S1024x16.Idx) :
    val_main_v26 (F := F) x6 i = x6 (idx_main_v26 i) := by
  unfold val_main_v26
  exact transpose_apply [1, 0] x6 transposes_S16x1024_S1024x16_1_0 i (idx_main_v26 i) (fun b => match b with
    | ⟨0, _⟩ => rfl
    | ⟨1, _⟩ => rfl)

-- %27 = stablehlo.dot_general %arg0, %26, contracting_dims = [2] x [0], precision = [DEFAULT, DEFAULT] : (tensor<1x2048x1024xf32>, tensor<1024x16xf32>) -> tensor<1x2048x16xf32>
def val_main_v27 (x0 : (⟨S1x2048x1024, .f32⟩ : BufTy).Contents (Elt F)) (x6 : (⟨S16x1024, .f32⟩ : BufTy).Contents (Elt F)) : (⟨S1x2048x16, .f32⟩ : BufTy).Contents (Elt F) :=
  Host.dotGeneral dot_S1x2048x1024_S1024x16_S1x2048x16_2_0_01_1_n_n none (x0) (val_main_v26 (F := F) x6)
theorem lhs_main_v27_0 (i : S1x2048x16.Idx) (q : dot_S1x2048x1024_S1024x16_S1x2048x16_2_0_01_1_n_n.contr.Idx) :
    (dot_S1x2048x1024_S1024x16_S1x2048x16_2_0_01_1_n_n.lhsIdx i q 0).val = (i 0).val := by
  unfold DotDims.lhsIdx
  rw [dif_neg (show ¬(0 : Fin S1x2048x1024.rank) ∈ dot_S1x2048x1024_S1024x16_S1x2048x16_2_0_01_1_n_n.lhsBatch by decide), dif_pos (show (0 : Fin S1x2048x1024.rank) ∈ dot_S1x2048x1024_S1024x16_S1x2048x16_2_0_01_1_n_n.lhsNonContracting by decide)]
  rfl
theorem lhs_main_v27_1 (i : S1x2048x16.Idx) (q : dot_S1x2048x1024_S1024x16_S1x2048x16_2_0_01_1_n_n.contr.Idx) :
    (dot_S1x2048x1024_S1024x16_S1x2048x16_2_0_01_1_n_n.lhsIdx i q 1).val = (i 1).val := by
  unfold DotDims.lhsIdx
  rw [dif_neg (show ¬(1 : Fin S1x2048x1024.rank) ∈ dot_S1x2048x1024_S1024x16_S1x2048x16_2_0_01_1_n_n.lhsBatch by decide), dif_pos (show (1 : Fin S1x2048x1024.rank) ∈ dot_S1x2048x1024_S1024x16_S1x2048x16_2_0_01_1_n_n.lhsNonContracting by decide)]
  rfl
theorem lhs_main_v27_2 (i : S1x2048x16.Idx) (q : dot_S1x2048x1024_S1024x16_S1x2048x16_2_0_01_1_n_n.contr.Idx) :
    (dot_S1x2048x1024_S1024x16_S1x2048x16_2_0_01_1_n_n.lhsIdx i q 2).val = (q ⟨0, by decide⟩).val :=
  dot_S1x2048x1024_S1024x16_S1x2048x16_2_0_01_1_n_n.lhsIdx_val_of_single rfl i q
theorem rhs_main_v27_0 (i : S1x2048x16.Idx) (q : dot_S1x2048x1024_S1024x16_S1x2048x16_2_0_01_1_n_n.contr.Idx) :
    (dot_S1x2048x1024_S1024x16_S1x2048x16_2_0_01_1_n_n.rhsIdx i q 0).val = (q ⟨0, by decide⟩).val :=
  dot_S1x2048x1024_S1024x16_S1x2048x16_2_0_01_1_n_n.rhsIdx_val_of_single rfl i q
theorem rhs_main_v27_1 (i : S1x2048x16.Idx) (q : dot_S1x2048x1024_S1024x16_S1x2048x16_2_0_01_1_n_n.contr.Idx) :
    (dot_S1x2048x1024_S1024x16_S1x2048x16_2_0_01_1_n_n.rhsIdx i q 1).val = (i 2).val := by
  unfold DotDims.rhsIdx
  rw [dif_neg (show ¬(1 : Fin S1024x16.rank) ∈ dot_S1x2048x1024_S1024x16_S1x2048x16_2_0_01_1_n_n.rhsBatch by decide), dif_pos (show (1 : Fin S1024x16.rank) ∈ dot_S1x2048x1024_S1024x16_S1x2048x16_2_0_01_1_n_n.rhsNonContracting by decide)]
  rfl
abbrev lidx_main_v27 (i : S1x2048x16.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v27 (i : S1x2048x16.Idx) (k : Fin 1024) : S1024x16.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v27_apply (x0 : (⟨S1x2048x1024, .f32⟩ : BufTy).Contents (Elt Ideal)) (x6 : (⟨S16x1024, .f32⟩ : BufTy).Contents (Elt Ideal)) (i : S1x2048x16.Idx) :
    val_main_v27 (F := Ideal) x0 x6 i = ∑ k : Fin 1024, x0 (lidx_main_v27 i k) * (val_main_v26 (F := Ideal) x6) (ridx_main_v27 i k) := by
  unfold val_main_v27
  generalize val_main_v26 (F := Ideal) x6 = y0
  simp only [Host.dotGeneral]
  rw [Ideal.dotGeneral_apply, ← Equiv.sum_comp (ValueIdx.contrEquiv1 dot_S1x2048x1024_S1024x16_S1x2048x16_2_0_01_1_n_n 1024 rfl rfl).symm]
  refine Finset.sum_congr rfl fun k _ => ?_
  have hk := ValueIdx.contrEquiv1_symm_val dot_S1x2048x1024_S1024x16_S1x2048x16_2_0_01_1_n_n 1024 rfl rfl k
  have el : dot_S1x2048x1024_S1024x16_S1x2048x16_2_0_01_1_n_n.lhsIdx i ((ValueIdx.contrEquiv1 dot_S1x2048x1024_S1024x16_S1x2048x16_2_0_01_1_n_n 1024 rfl rfl).symm k) = lidx_main_v27 i k := funext fun a => Fin.ext (by
    match a with
    | ⟨0, _⟩ => exact lhs_main_v27_0 _ _
    | ⟨1, _⟩ => exact lhs_main_v27_1 _ _
    | ⟨2, _⟩ => exact (lhs_main_v27_2 _ _).trans hk)
  have er : dot_S1x2048x1024_S1024x16_S1x2048x16_2_0_01_1_n_n.rhsIdx i ((ValueIdx.contrEquiv1 dot_S1x2048x1024_S1024x16_S1x2048x16_2_0_01_1_n_n 1024 rfl rfl).symm k) = ridx_main_v27 i k := funext fun a => Fin.ext (by
    match a with
    | ⟨0, _⟩ => exact (rhs_main_v27_0 _ _).trans hk
    | ⟨1, _⟩ => exact rhs_main_v27_1 _ _)
  rw [el, er]

-- %cst_3 = stablehlo.constant dense<2.500000e-01> : tensor<f32>
def val_main_cst_3 : (⟨S_, .f32⟩ : BufTy).Contents (Elt F) :=
  constant S_ .f32 0x3E800000#32
theorem val_main_cst_3_apply (i : S_.Idx) :
    val_main_cst_3 (F := F) i = FloatOps.ofBits .f32 0x3E800000#32 := rfl

-- %28 = stablehlo.broadcast_in_dim %cst_3, dims = [] : (tensor<f32>) -> tensor<1x2048x16xf32>
def val_main_v28 : (⟨S1x2048x16, .f32⟩ : BufTy).Contents (Elt F) :=
  broadcastInDim S1x2048x16 ![] bcast_S_S1x2048x16 (val_main_cst_3 (F := F))
abbrev idx_main_v28 (i : S1x2048x16.Idx) : S_.Idx := fun a => a.elim0
theorem val_main_v28_apply (i : S1x2048x16.Idx) :
    val_main_v28 (F := F) i = val_main_cst_3 (F := F) (idx_main_v28 i) := by
  unfold val_main_v28
  generalize val_main_cst_3 (F := F) = y
  exact broadcastInDim_apply _ bcast_S_S1x2048x16 y i (idx_main_v28 i) (fun a => a.elim0)

-- %29 = stablehlo.multiply %27, %28 : tensor<1x2048x16xf32>
def val_main_v29 (x0 : (⟨S1x2048x1024, .f32⟩ : BufTy).Contents (Elt F)) (x6 : (⟨S16x1024, .f32⟩ : BufTy).Contents (Elt F)) : (⟨S1x2048x16, .f32⟩ : BufTy).Contents (Elt F) :=
  mulf (val_main_v27 (F := F) x0 x6) (val_main_v28 (F := F))
theorem val_main_v29_apply (x0 : (⟨S1x2048x1024, .f32⟩ : BufTy).Contents (Elt F)) (x6 : (⟨S16x1024, .f32⟩ : BufTy).Contents (Elt F)) (i : S1x2048x16.Idx) :
    val_main_v29 (F := F) x0 x6 i = FloatOps.mulf (val_main_v27 (F := F) x0 x6 i) (val_main_v28 (F := F) i) := rfl

-- %30 = stablehlo.broadcast_in_dim %29, dims = [0, 1, 2] : (tensor<1x2048x16xf32>) -> tensor<1x2048x16x1xf32>
def val_main_v30 (x0 : (⟨S1x2048x1024, .f32⟩ : BufTy).Contents (Elt F)) (x6 : (⟨S16x1024, .f32⟩ : BufTy).Contents (Elt F)) : (⟨S1x2048x16x1, .f32⟩ : BufTy).Contents (Elt F) :=
  broadcastInDim S1x2048x16x1 ![0, 1, 2] bcast_S1x2048x16_S1x2048x16x1_0_1_2 (val_main_v29 (F := F) x0 x6)
abbrev idx_main_v30 (i : S1x2048x16x1.Idx) : S1x2048x16.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v30_apply (x0 : (⟨S1x2048x1024, .f32⟩ : BufTy).Contents (Elt F)) (x6 : (⟨S16x1024, .f32⟩ : BufTy).Contents (Elt F)) (i : S1x2048x16x1.Idx) :
    val_main_v30 (F := F) x0 x6 i = val_main_v29 (F := F) x0 x6 (idx_main_v30 i) := by
  unfold val_main_v30
  generalize val_main_v29 (F := F) x0 x6 = y
  exact broadcastInDim_apply _ bcast_S1x2048x16_S1x2048x16x1_0_1_2 y i (idx_main_v30 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show (i 2).val = if (16 : Nat) = 1 then 0 else (i 2).val; rw [if_neg (by decide)])

-- %31 = stablehlo.broadcast_in_dim %30, dims = [0, 1, 2, 3] : (tensor<1x2048x16x1xf32>) -> tensor<1x2048x16x2048xf32>
def val_main_v31 (x0 : (⟨S1x2048x1024, .f32⟩ : BufTy).Contents (Elt F)) (x6 : (⟨S16x1024, .f32⟩ : BufTy).Contents (Elt F)) : (⟨S1x2048x16x2048, .f32⟩ : BufTy).Contents (Elt F) :=
  broadcastInDim S1x2048x16x2048 ![0, 1, 2, 3] bcast_S1x2048x16x1_S1x2048x16x2048_0_1_2_3 (val_main_v30 (F := F) x0 x6)
abbrev idx_main_v31 (i : S1x2048x16x2048.Idx) : S1x2048x16x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩
theorem val_main_v31_apply (x0 : (⟨S1x2048x1024, .f32⟩ : BufTy).Contents (Elt F)) (x6 : (⟨S16x1024, .f32⟩ : BufTy).Contents (Elt F)) (i : S1x2048x16x2048.Idx) :
    val_main_v31 (F := F) x0 x6 i = val_main_v30 (F := F) x0 x6 (idx_main_v31 i) := by
  unfold val_main_v31
  generalize val_main_v30 (F := F) x0 x6 = y
  exact broadcastInDim_apply _ bcast_S1x2048x16x1_S1x2048x16x2048_0_1_2_3 y i (idx_main_v31 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show (i 2).val = if (16 : Nat) = 1 then 0 else (i 2).val; rw [if_neg (by decide)]
    | ⟨3, _⟩ => by show 0 = if (1 : Nat) = 1 then 0 else (i 3).val; rw [if_pos rfl])

-- %32 = stablehlo.multiply %25, %31 : tensor<1x2048x16x2048xf32>
def val_main_v32 (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (x6 : (⟨S16x1024, .f32⟩ : BufTy).Contents (Elt F)) : (⟨S1x2048x16x2048, .f32⟩ : BufTy).Contents (Elt F) :=
  mulf (val_main_v25 (F := F) x0 x1 x2 x3 x4 x5) (val_main_v31 (F := F) x0 x6)
theorem val_main_v32_apply (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (x6 : (⟨S16x1024, .f32⟩ : BufTy).Contents (Elt F)) (i : S1x2048x16x2048.Idx) :
    val_main_v32 (F := F) x0 x1 x2 x3 x4 x5 x6 i = FloatOps.mulf (val_main_v25 (F := F) x0 x1 x2 x3 x4 x5 i) (val_main_v31 (F := F) x0 x6 i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %33 = stablehlo.reduce(%32 init: %cst_4) applies stablehlo.add across dimensions = [2] : (tensor<1x2048x16x2048xf32>, tensor<f32>) -> tensor<1x2048x2048xf32> {
def val_main_v33 (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (x6 : (⟨S16x1024, .f32⟩ : BufTy).Contents (Elt F)) : (⟨S1x2048x2048, .f32⟩ : BufTy).Contents (Elt F) :=
  Host.reduceAdd (val_main_v32 (F := F) x0 x1 x2 x3 x4 x5 x6) (val_main_cst_4 (F := F)) reducesTo_S1x2048x16x2048_S1x2048x2048_d2 h_S_
abbrev idx_main_v33 (i : S1x2048x2048.Idx) (k : Fin 16) : S1x2048x16x2048.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
/-- Stated at `F := Ideal`, where the host's float sum is this sum; at a bit-exact instance it is an opaque function of its operand. -/
theorem val_main_v33_apply (x0 x1 : (⟨S1x2048x1024, .f32⟩ : BufTy).Contents (Elt Ideal)) (x2 : (⟨S1024x1024, .f32⟩ : BufTy).Contents (Elt Ideal)) (x3 : (⟨S64x1024, .f32⟩ : BufTy).Contents (Elt Ideal)) (x4 x5 : (⟨S64, .f32⟩ : BufTy).Contents (Elt Ideal)) (x6 : (⟨S16x1024, .f32⟩ : BufTy).Contents (Elt Ideal)) (i : S1x2048x2048.Idx) :
    val_main_v33 (F := Ideal) x0 x1 x2 x3 x4 x5 x6 i = (val_main_cst_4 (F := Ideal)) (Shape.Idx.first h_S_) + ∑ k : Fin 16, (val_main_v32 (F := Ideal) x0 x1 x2 x3 x4 x5 x6) (idx_main_v33 i k) := by
  unfold val_main_v33
  generalize val_main_v32 (F := Ideal) x0 x1 x2 x3 x4 x5 x6 = y0
  simp only [Host.reduceAdd, Ideal.hostReduceAdd_def]
  rw [Ideal.hostReduceAdd_single reducesTo_S1x2048x16x2048_S1x2048x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %values, %indices = chlo.top_k(%33, k = 512) : tensor<1x2048x2048xf32> -> (tensor<1x2048x512xf32>, tensor<1x2048x512xi32>)
def val_main_values (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (x6 : (⟨S16x1024, .f32⟩ : BufTy).Contents (Elt F)) : (⟨S1x2048x512, .f32⟩ : BufTy).Contents (Elt F) :=
  (Host.topK S1x2048x512 2 (FloatOps.cmpfTotal .gt) (val_main_v33 (F := F) x0 x1 x2 x3 x4 x5 x6) sliceFits_S1x2048x2048_S1x2048x512).1

-- %values, %indices = chlo.top_k(%33, k = 512) : tensor<1x2048x2048xf32> -> (tensor<1x2048x512xf32>, tensor<1x2048x512xi32>)
def val_main_indices (x0 x1 : (⟨S1x2048x1024, .f32⟩ : BufTy).Contents (Elt F)) (x2 : (⟨S1024x1024, .f32⟩ : BufTy).Contents (Elt F)) (x3 : (⟨S64x1024, .f32⟩ : BufTy).Contents (Elt F)) (x4 x5 : (⟨S64, .f32⟩ : BufTy).Contents (Elt F)) (x6 : (⟨S16x1024, .f32⟩ : BufTy).Contents (Elt F)) : (⟨S1x2048x512, .i32⟩ : BufTy).Contents (Elt F) :=
  (Host.topK S1x2048x512 2 (FloatOps.cmpfTotal .gt) (val_main_v33 (F := F) x0 x1 x2 x3 x4 x5 x6) sliceFits_S1x2048x2048_S1x2048x512).2

/-- The term the Run module names `res_main_indices` is the stage. -/
theorem val_main_indices_eq (m : (ℓ : Loc nD τ sig) → Buf (Elt F) ℓ) (c : Dev nD) :
    Cert.ReferenceIdeal.Hand.res_main_indices m c = val_main_indices (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Hand.res_main_indices; rfl

end Cert.ReferenceIdeal.Read

end
-- ==== Proof.RefScore.lean ====
/- The reference's score of a query and a key, in the form the kernel's scores are met in. -/
module

public import proofs.«01_k».proof.Proof.RefRead
public import proofs.«01_k».proof.Proof.KeyNorm
public import Idealize.ShloMosaic.Lib.ValueIdxCore

@[expose] public section

noncomputable section

namespace Cert.ReferenceIdeal.Read

open Cert.ReferenceIdeal Cert.ReferenceIdeal.Gen Cert.KernelIdeal.Hand
open Idealize.ShloMosaic Idealize.ShloMosaic.TcCoe Idealize.ShloMosaic.ValueIdx

variable (x0 x1 : (⟨S1x2048x1024, .f32⟩ : BufTy).Contents (Elt Ideal)) (x2 : (⟨S1024x1024, .f32⟩ : BufTy).Contents (Elt Ideal))
  (x3 : (⟨S64x1024, .f32⟩ : BufTy).Contents (Elt Ideal)) (x4 x5 : (⟨S64, .f32⟩ : BufTy).Contents (Elt Ideal))
  (x6 : (⟨S16x1024, .f32⟩ : BufTy).Contents (Elt Ideal))

/-- A key's projected row. -/
def keyRow (i : Fin 2048) (d : Fin 64) : EReal := ∑ e : Fin 1024, (x0 (ix3 (0 : Fin 1) i e) : EReal) * x3 (ix2 d e)

/-- A query's projection, entry `r`. -/
def queryEnt (q : Fin 2048) (r : Fin 1024) : EReal := ∑ e : Fin 1024, (x1 (ix3 (0 : Fin 1) q e) : EReal) * x2 (ix2 r e)

/-- A query's weight of a head. -/
def weightEnt (q : Fin 2048) (h : Fin 16) : EReal :=
  (∑ e : Fin 1024, (x0 (ix3 (0 : Fin 1) q e) : EReal) * x6 (ix2 h e)) * (FloatOps.ofBits (F := Ideal) .f32 0x3E800000#32 : EReal)

theorem v4_row (i : Fin 2048) (d : Fin 64) : val_main_v4 (F := Ideal) x0 x3 (ix3 (0 : Fin 1) i d) = keyRow x0 x3 i d := by
  rw [val_main_v4_apply]
  refine Finset.sum_congr rfl fun e _ => ?_
  rw [val_main_v3_apply]
  exact congrArg₂ (· * ·) (congrArg x0 (by funext a; match a with | ⟨0, _⟩ => rfl | ⟨1, _⟩ => rfl | ⟨2, _⟩ => rfl))
    (congrArg x3 (by funext a; match a with | ⟨0, _⟩ => rfl | ⟨1, _⟩ => rfl))

theorem v5_row (i : Fin 2048) : val_main_v5 (F := Ideal) x0 x3 (ix2 (0 : Fin 1) i) = rowSum (keyRow x0 x3 i) := by
  rw [val_main_v5_apply]
  refine congrArg (_ + ·) (Finset.sum_congr rfl fun d _ => ?_)
  rw [← v4_row]
  exact congrArg _ (by funext a; match a with | ⟨0, _⟩ => rfl | ⟨1, _⟩ => rfl | ⟨2, _⟩ => rfl)

theorem v8_row (i : Fin 2048) : val_main_v8 (F := Ideal) x0 x3 (ix3 (0 : Fin 1) i (0 : Fin 1)) = rowMean (keyRow x0 x3 i) := by
  rw [val_main_v8_apply, val_main_v6_apply, val_main_v7_apply]
  unfold rowMean
  rw [← v5_row]
  refine congrArg₂ _ (congrArg _ (by funext a; match a with | ⟨0, _⟩ => rfl | ⟨1, _⟩ => rfl)) rfl

theorem v11_row (i : Fin 2048) (d : Fin 64) : val_main_v11 (F := Ideal) x0 x3 (ix3 (0 : Fin 1) i d) = rowDev (keyRow x0 x3 i) d := by
  rw [val_main_v11_apply, val_main_v10_apply, v4_row]
  unfold rowDev
  rw [← v8_row]
  refine congrArg₂ _ rfl (congrArg _ (by funext a; match a with | ⟨0, _⟩ => rfl | ⟨1, _⟩ => rfl | ⟨2, _⟩ => rfl))

/-- The variance's own deviations are the same ones. -/
theorem dev_eq : val_main_call0_v5 (F := Ideal) x0 x3 = val_main_v11 (F := Ideal) x0 x3 := rfl

theorem v9_row (i : Fin 2048) : val_main_v9 (F := Ideal) x0 x3 (ix3 (0 : Fin 1) i (0 : Fin 1)) = rowVar (keyRow x0 x3 i) := by
  unfold val_main_v9 rowVar
  show Scalar.select (broadcastInDim S1x2048x1 ![] bcast_S_S1x2048x1 (val_main_call0_v13 (F := Ideal)) (ix3 (0 : Fin 1) i (0 : Fin 1)))
    (val_main_call0_v12 (F := Ideal) x0 x3 (ix3 (0 : Fin 1) i (0 : Fin 1))) (val_main_call0_call0_v1 (F := Ideal) (ix3 (0 : Fin 1) i (0 : Fin 1))) = _
  have hs : val_main_call0_v12 (F := Ideal) x0 x3 (ix3 (0 : Fin 1) i (0 : Fin 1))
      = FloatOps.hostDivf (F := Ideal) (φ := .f32) (rowSum fun d => FloatOps.mulf (F := Ideal) (φ := .f32) (rowDev (keyRow x0 x3 i) d) (rowDev (keyRow x0 x3 i) d)) rowCount := by
    rw [val_main_call0_v12_apply, val_main_call0_v10_apply, val_main_call0_v11_apply, val_main_call0_v9_apply]
    refine congrArg₂ _ (congrArg (_ + ·) (Finset.sum_congr rfl fun d _ => ?_)) rfl
    rw [val_main_call0_v6_apply, dev_eq]
    dsimp only
    rw [← v11_row]
    rw [show idx_main_call0_v9 (idx_main_call0_v10 (ix3 (0 : Fin 1) i (0 : Fin 1))) d = ix3 (0 : Fin 1) i d from by
      funext a; match a with | ⟨0, _⟩ => rfl | ⟨1, _⟩ => rfl | ⟨2, _⟩ => rfl]
  rw [hs, val_main_call0_call0_v1_apply]
  rfl

/-- A key's normalised row. -/
theorem v22_row (i : Fin 2048) (d : Fin 64) :
    val_main_v22 (F := Ideal) x0 x3 x4 x5 (ix3 (0 : Fin 1) i d)
      = rowNorm (keyRow x0 x3 i) (fun d => x4 (ix1 d)) (fun d => x5 (ix1 d)) d := by
  rw [val_main_v22_apply, val_main_v19_apply, val_main_v16_apply, v11_row, val_main_v15_apply, val_main_v14_apply, val_main_v13_apply,
    val_main_v18_apply, val_main_v17_apply, val_main_v21_apply, val_main_v20_apply]
  unfold rowNorm
  rw [← v9_row]
  refine congrArg₂ _ (congrArg₂ _ (congrArg₂ _ rfl (congrArg _ (congrArg₂ _ (congrArg _ ?_) rfl))) (congrArg x4 ?_)) (congrArg x5 ?_)
  · funext a; match a with | ⟨0, _⟩ => rfl | ⟨1, _⟩ => rfl | ⟨2, _⟩ => rfl
  · funext a; match a with | ⟨0, _⟩ => rfl
  · funext a; match a with | ⟨0, _⟩ => rfl

/-- A query's projection, read by head and entry. -/
theorem v2_row (q : Fin 2048) (h : Fin 16) (d : Fin 64) :
    val_main_v2 (F := Ideal) x1 x2 (ix4 (0 : Fin 1) q h d) = queryEnt x1 x2 q ⟨64 * h.val + d.val, by omega⟩ := by
  rw [val_main_v2_apply, val_main_v1_apply]
  have hq := q.isLt
  have hh := h.isLt
  have hd := d.isLt
  refine Finset.sum_congr rfl fun e _ => ?_
  rw [val_main_v0_apply]
  refine congrArg₂ (· * ·) (congrArg x1 ?_) (congrArg x2 ?_)
  · funext a
    match a with
    | ⟨0, _⟩ => rfl
    | ⟨1, _⟩ =>
      apply Fin.ext
      show (((0 * 2048 + q.val) * 16 + h.val) * 64 + d.val) / 1024 % 2048 = q.val
      omega
    | ⟨2, _⟩ => rfl
  · funext a
    match a with
    | ⟨0, _⟩ =>
      apply Fin.ext
      show (((0 * 2048 + q.val) * 16 + h.val) * 64 + d.val) % 1024 = 64 * h.val + d.val
      omega
    | ⟨1, _⟩ => rfl

theorem v29_row (q : Fin 2048) (h : Fin 16) : val_main_v29 (F := Ideal) x0 x6 (ix3 (0 : Fin 1) q h) = weightEnt x0 x6 q h := by
  rw [val_main_v29_apply, val_main_v27_apply]
  refine congrArg₂ (α := EReal) (β := EReal) (· * ·) (Finset.sum_congr rfl fun e _ => ?_) rfl
  rw [val_main_v26_apply]
  exact congrArg₂ (· * ·) (congrArg x0 (by funext a; match a with | ⟨0, _⟩ => rfl | ⟨1, _⟩ => rfl | ⟨2, _⟩ => rfl))
    (congrArg x6 (by funext a; match a with | ⟨0, _⟩ => rfl | ⟨1, _⟩ => rfl))

/-- The reference's score of query `q` and key `i`. -/
def refScore (q i : Fin 2048) : EReal :=
  ∑ h : Fin 16, ((∑ d : Fin 64, queryEnt x1 x2 q ⟨64 * h.val + d.val, by omega⟩
      * rowNorm (keyRow x0 x3 i) (fun d => x4 (ix1 d)) (fun d => x5 (ix1 d)) d) * Ideal.ofBits .f32 0x3E000000#32) * weightEnt x0 x6 q h

theorem v33_score (q i : Fin 2048) :
    val_main_v33 (F := Ideal) x0 x1 x2 x3 x4 x5 x6 (ix3 (0 : Fin 1) q i) = refScore x0 x1 x2 x3 x4 x5 x6 q i := by
  rw [val_main_v33_apply]
  show Ideal.ofBits .f32 0x00000000#32 + _ = _
  rw [Ideal.ofBits_zero_f32, zero_add]
  refine Finset.sum_congr rfl fun h _ => ?_
  rw [show idx_main_v33 (ix3 (0 : Fin 1) q i) h = ix4 (0 : Fin 1) q h i from by
    funext a; match a with | ⟨0, _⟩ => rfl | ⟨1, _⟩ => rfl | ⟨2, _⟩ => rfl | ⟨3, _⟩ => rfl]
  rw [val_main_v32_apply, val_main_v25_apply, val_main_v31_apply, val_main_v30_apply]
  refine congrArg₂ (α := EReal) (β := EReal) (· * ·) (congrArg₂ (α := EReal) (β := EReal) (· * ·) ?_ rfl) ?_
  · rw [val_main_v23_apply]
    refine Finset.sum_congr rfl fun d _ => ?_
    rw [← v2_row, ← v22_row]
    refine congrArg₂ (α := EReal) (β := EReal) (· * ·) (congrArg _ ?_) (congrArg _ ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl
  · rw [← v29_row]
    exact congrArg _ (by funext a; match a with | ⟨0, _⟩ => rfl | ⟨1, _⟩ => rfl | ⟨2, _⟩ => rfl)

end Cert.ReferenceIdeal.Read

end
-- ==== Proof.Sides.lean ====
/- One exchange of the network read at a row: which row each side of the exchange between halves holds, and which row the
   rolled block holds. -/
module

public import proofs.«01_k».proof.Proof.Net
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.ValueIdx

variable {α : Type} {o d e : Nat}

/-- The first side holds the rows whose bit is clear. -/
theorem side0_apply (h : HiFacts o d) (x : S512x128.Idx → α) (g : Fin o) (t : Fin d) (c : Fin 128) (r : Fin 512)
    (hr : r.val = (g.val * 2) * d + t.val) : side0 h x (ix3 g t c) = x (ix2 r c) := by
  unfold side0
  rw [shapeCast_apply _ _ (ix3 g t c) (ix4 g (0 : Fin 1) t c) (by
      rw [Shape.rowMajor_val_four, Shape.rowMajor_val_three]
      show ((g.val * 1 + 0) * d + t.val) * 128 + c.val = (g.val * d + t.val) * 128 + c.val
      rw [Nat.mul_one, Nat.add_zero])]
  rw [extractStridedSlice_apply _ _ _ (ix4 g (0 : Fin 1) t c) (ix4 g (0 : Fin 2) t c) (by
      intro a
      match a with
      | ⟨0, _⟩ => exact (Nat.zero_add _).symm
      | ⟨1, _⟩ => rfl
      | ⟨2, _⟩ => exact (Nat.zero_add _).symm
      | ⟨3, _⟩ => exact (Nat.zero_add _).symm)]
  exact shapeCast_apply _ _ (ix4 g (0 : Fin 2) t c) (ix2 r c) (by
      rw [Shape.rowMajor_val_four, Shape.rowMajor_val_two]
      show r.val * 128 + c.val = ((g.val * 2 + 0) * d + t.val) * 128 + c.val
      rw [hr, Nat.add_zero])

/-- The second side holds the rows whose bit is set. -/
theorem side1_apply (h : HiFacts o d) (x : S512x128.Idx → α) (g : Fin o) (t : Fin d) (c : Fin 128) (r : Fin 512)
    (hr : r.val = (g.val * 2 + 1) * d + t.val) : side1 h x (ix3 g t c) = x (ix2 r c) := by
  unfold side1
  rw [shapeCast_apply _ _ (ix3 g t c) (ix4 g (0 : Fin 1) t c) (by
      rw [Shape.rowMajor_val_four, Shape.rowMajor_val_three]
      show ((g.val * 1 + 0) * d + t.val) * 128 + c.val = (g.val * d + t.val) * 128 + c.val
      rw [Nat.mul_one, Nat.add_zero])]
  rw [extractStridedSlice_apply _ _ _ (ix4 g (0 : Fin 1) t c) (ix4 g (1 : Fin 2) t c) (by
      intro a
      match a with
      | ⟨0, _⟩ => exact (Nat.zero_add _).symm
      | ⟨1, _⟩ => rfl
      | ⟨2, _⟩ => exact (Nat.zero_add _).symm
      | ⟨3, _⟩ => exact (Nat.zero_add _).symm)]
  exact shapeCast_apply _ _ (ix4 g (1 : Fin 2) t c) (ix2 r c) (by
      rw [Shape.rowMajor_val_four, Shape.rowMajor_val_two]
      show r.val * 128 + c.val = ((g.val * 2 + 1) * d + t.val) * 128 + c.val
      rw [hr])

/-- Of the sides put back, a row whose bit is clear reads the first. -/
theorem sides_first (h : HiFacts o d) (a b : (Sh3 o d 128).Idx → α) (g : Fin o) (t : Fin d) (c : Fin 128) (r : Fin 512)
    (hr : r.val = (g.val * 2) * d + t.val) : sides h a b (ix2 r c) = a (ix3 g t c) := by
  unfold sides
  rw [shapeCast_apply _ _ (ix2 r c) (ix4 g (0 : Fin 2) t c) (by
      rw [Shape.rowMajor_val_four, Shape.rowMajor_val_two]
      show ((g.val * 2 + 0) * d + t.val) * 128 + c.val = r.val * 128 + c.val
      rw [hr, Nat.add_zero])]
  rw [concatenate_pair_apply_left (t := Sh4 o 2 d 128) (s₁ := Sh4 o 1 d 128) (s₂ := Sh4 o 1 d 128) 1 _ _ h.cc
      (ix4 g (0 : Fin 2) t c) rfl (ix4 g (0 : Fin 1) t c) (by
      intro a
      match a with
      | ⟨0, _⟩ => rfl
      | ⟨1, _⟩ => rfl
      | ⟨2, _⟩ => rfl
      | ⟨3, _⟩ => rfl)]
  exact shapeCast_apply _ _ (ix4 g (0 : Fin 1) t c) (ix3 g t c) (by
      rw [Shape.rowMajor_val_four, Shape.rowMajor_val_three]
      show (g.val * d + t.val) * 128 + c.val = ((g.val * 1 + 0) * d + t.val) * 128 + c.val
      rw [Nat.mul_one, Nat.add_zero])

/-- Of the sides put back, a row whose bit is set reads the second. -/
theorem sides_second (h : HiFacts o d) (a b : (Sh3 o d 128).Idx → α) (g : Fin o) (t : Fin d) (c : Fin 128) (r : Fin 512)
    (hr : r.val = (g.val * 2 + 1) * d + t.val) : sides h a b (ix2 r c) = b (ix3 g t c) := by
  unfold sides
  rw [shapeCast_apply _ _ (ix2 r c) (ix4 g (1 : Fin 2) t c) (by
      rw [Shape.rowMajor_val_four, Shape.rowMajor_val_two]
      show ((g.val * 2 + 1) * d + t.val) * 128 + c.val = r.val * 128 + c.val
      rw [hr])]
  rw [concatenate_pair_apply_right (t := Sh4 o 2 d 128) (s₁ := Sh4 o 1 d 128) (s₂ := Sh4 o 1 d 128) 1 _ _ h.cc
      (ix4 g (1 : Fin 2) t c) rfl rfl (ix4 g (0 : Fin 1) t c) (by
      intro a
      match a with
      | ⟨0, _⟩ => exact fun _ => rfl
      | ⟨1, _⟩ => exact fun hn => absurd rfl hn
      | ⟨2, _⟩ => exact fun _ => rfl
      | ⟨3, _⟩ => exact fun _ => rfl) rfl]
  exact shapeCast_apply _ _ (ix4 g (0 : Fin 1) t c) (ix3 g t c) (by
      rw [Shape.rowMajor_val_four, Shape.rowMajor_val_three]
      show (g.val * d + t.val) * 128 + c.val = ((g.val * 1 + 0) * d + t.val) * 128 + c.val
      rw [Nat.mul_one, Nat.add_zero])

/-- A per-row flag spread over one side is the flag of the pair's first row. -/
theorem hiFlip_apply (m : HiMask o d) (desc : IVec S512x1 1) (g : Fin o) (t : Fin d) (c : Fin 128) (r : Fin 512)
    (hr : r.val = (g.val * 2) * d + t.val) : hiFlip m desc (ix3 g t c) = desc (ix2 r (0 : Fin 1)) := by
  unfold hiFlip
  rw [broadcastTo_apply _ _ (ix3 g t c) (ix3 g t (0 : Fin 1)) (by
      intro a
      match a with
      | ⟨0, _⟩ =>
        show g.val = if o = 1 then 0 else g.val
        split
        · have := g.isLt; omega
        · rfl
      | ⟨1, _⟩ =>
        show t.val = if d = 1 then 0 else t.val
        split
        · have := t.isLt; omega
        · rfl
      | ⟨2, _⟩ => rfl)]
  rw [shapeCast_apply _ _ (ix3 g t (0 : Fin 1)) (ix4 g (0 : Fin 1) t (0 : Fin 1)) (by
      rw [Shape.rowMajor_val_four, Shape.rowMajor_val_three]
      show ((g.val * 1 + 0) * d + t.val) * 1 + 0 = (g.val * d + t.val) * 1 + 0
      simp only [Nat.mul_one, Nat.add_zero])]
  rw [extractStridedSlice_apply _ _ _ (ix4 g (0 : Fin 1) t (0 : Fin 1)) (ix4 g (0 : Fin 2) t (0 : Fin 1)) (by
      intro a
      match a with
      | ⟨0, _⟩ => exact (Nat.zero_add _).symm
      | ⟨1, _⟩ => rfl
      | ⟨2, _⟩ => exact (Nat.zero_add _).symm
      | ⟨3, _⟩ => rfl)]
  exact shapeCast_apply _ _ (ix4 g (0 : Fin 2) t (0 : Fin 1)) (ix2 r (0 : Fin 1)) (by
      rw [Shape.rowMajor_val_four, Shape.rowMajor_val_two]
      show r.val * 1 + 0 = ((g.val * 2 + 0) * d + t.val) * 1 + 0
      rw [hr]; simp only [Nat.mul_one, Nat.add_zero])

/-- The rolled block at a first row reads `d` rows below. -/
theorem rolled_first (h : LoFacts d e) (t : IVec S512x1 1) (x : S512x128.Idx → α) (c : Fin 128) (r r' : Fin 512)
    (ht : t (ix2 r (0 : Fin 1)) = 0#1) (hde : d + e = 512) (hr : r'.val = d + r.val) : rolled h t x (ix2 r c) = x (ix2 r' c) := by
  have hre : r.val < e := by have := r'.isLt; omega
  unfold rolled
  rw [select_apply, broadcastTo_apply _ _ (ix2 r c) (ix2 r (0 : Fin 1)) (by
      intro a
      match a with
      | ⟨0, _⟩ => rfl
      | ⟨1, _⟩ => rfl), shapeCast_apply _ _ (ix2 r (0 : Fin 1)) (ix2 r (0 : Fin 1)) rfl, ht]
  show concatenate S512x128 0 [⟨⟨2, ![e, 128]⟩, _⟩, ⟨⟨2, ![d, 128]⟩, _⟩] h.ca (ix2 r c) = _
  rw [concatenate_pair_apply_left (t := S512x128) (s₁ := ⟨2, ![e, 128]⟩) (s₂ := ⟨2, ![d, 128]⟩) 0 _ _ h.ca
      (ix2 r c) rfl (ix2 ⟨r.val, hre⟩ c) (by
      intro a
      match a with
      | ⟨0, _⟩ => rfl
      | ⟨1, _⟩ => rfl)]
  exact extractStridedSlice_apply _ _ _ _ (ix2 r' c) (by
      intro a
      match a with
      | ⟨0, _⟩ => exact hr
      | ⟨1, _⟩ => exact (Nat.zero_add _).symm)

/-- The rolled block at a second row reads `d` rows above. -/
theorem rolled_second (h : LoFacts d e) (t : IVec S512x1 1) (x : S512x128.Idx → α) (c : Fin 128) (r r' : Fin 512)
    (ht : t (ix2 r (0 : Fin 1)) = 1#1) (hde : d + e = 512) (hr : r'.val + d = r.val) : rolled h t x (ix2 r c) = x (ix2 r' c) := by
  have hre : r'.val < e := by have := r.isLt; omega
  unfold rolled
  rw [select_apply, broadcastTo_apply _ _ (ix2 r c) (ix2 r (0 : Fin 1)) (by
      intro a
      match a with
      | ⟨0, _⟩ => rfl
      | ⟨1, _⟩ => rfl), shapeCast_apply _ _ (ix2 r (0 : Fin 1)) (ix2 r (0 : Fin 1)) rfl, ht]
  show concatenate S512x128 0 [⟨⟨2, ![d, 128]⟩, _⟩, ⟨⟨2, ![e, 128]⟩, _⟩] h.cb (ix2 r c) = _
  rw [concatenate_pair_apply_right (t := S512x128) (s₁ := ⟨2, ![d, 128]⟩) (s₂ := ⟨2, ![e, 128]⟩) 0 _ _ h.cb
      (ix2 r c) rfl rfl (ix2 ⟨r'.val, hre⟩ c) (by
      intro a
      match a with
      | ⟨0, _⟩ => exact fun hn => absurd rfl hn
      | ⟨1, _⟩ => exact fun _ => rfl) hr]
  exact extractStridedSlice_apply _ _ _ _ (ix2 r' c) (by
      intro a
      match a with
      | ⟨0, _⟩ => exact (Nat.zero_add _).symm
      | ⟨1, _⟩ => exact (Nat.zero_add _).symm)

end Cert.KernelIdeal.Hand

end
-- ==== Proof.Rows.lean ====
/- The rows of a column and the positions of the sorting network they stand for: row `r` is the position whose nine bits are
   `r`'s reversed. The facts about single rows are found by trying every row. -/
module

public import proofs.«01_k».proof.Proof.Net
public import Idealize.ShloMosaic.Lib.ValueIdxCore
public import Idealize.ShloMosaic.Lib.SortNet.Fold
public import Idealize.ShloMosaic.Lib.SortNet.Printed

@[expose] public section

set_option maxRecDepth 100000

noncomputable section

namespace Cert.KernelIdeal.Hand

open Cert.KernelIdeal Cert.KernelIdeal.Gen
open Idealize.ShloMosaic hiding ix2
open Idealize.ShloMosaic.TcCoe Idealize.ShloMosaic.ValueIdx Idealize.ShloMosaic.SortNet

/-- Nine bits reversed. -/
def revBits (n : Nat) : Nat :=
  (n % 2) * 256 + (n / 2 % 2) * 128 + (n / 4 % 2) * 64 + (n / 8 % 2) * 32 + (n / 16 % 2) * 16 + (n / 32 % 2) * 8
    + (n / 64 % 2) * 4 + (n / 128 % 2) * 2 + n / 256 % 2

theorem revBits_lt (n : Nat) : revBits n < 2 ^ 9 := by unfold revBits; omega

/-- The position a row stands for. -/
def pos (r : Fin 512) : Fin (2 ^ 9) := ⟨revBits r.val, revBits_lt _⟩

/-- The row that stands for a position. -/
def rowAt (p : Fin (2 ^ 9)) : Fin 512 := ⟨revBits p.val, revBits_lt _⟩

theorem rowAt_pos : ∀ r : Fin 512, rowAt (pos r) = r := by decide +kernel

theorem pos_rowAt : ∀ p : Fin 512, pos (rowAt p) = p := by decide +kernel

/-- A row whose bit is clear stands for a position whose bit is clear; its partner is `2^(8-a)` rows further. -/
theorem pos_clear : ∀ (a : Fin 9) (r : Fin 512), r.val / 2 ^ (8 - a.val) % 2 = 0 →
    (pos r).val &&& 2 ^ a.val = 0 ∧ ∃ r' : Fin 512, r'.val = 2 ^ (8 - a.val) + r.val ∧ pos r' = partner 9 a.val (pos r) := by
  have h : ∀ (a : Fin 9) (r : Fin 512), r.val / 2 ^ (8 - a.val) % 2 = 0 →
      (pos r).val &&& 2 ^ a.val = 0 ∧ 2 ^ (8 - a.val) + r.val < 512 ∧
        revBits (2 ^ (8 - a.val) + r.val) = (partner 9 a.val (pos r)).val := by decide +kernel
  intro a r hr
  obtain ⟨h1, h2, h3⟩ := h a r hr
  exact ⟨h1, ⟨_, h2⟩, rfl, Fin.ext h3⟩

/-- A row whose bit is set stands for a position whose bit is set; its partner is `2^(8-a)` rows before. -/
theorem pos_set : ∀ (a : Fin 9) (r : Fin 512), r.val / 2 ^ (8 - a.val) % 2 = 1 →
    (pos r).val &&& 2 ^ a.val ≠ 0 ∧ ∃ r' : Fin 512, r'.val + 2 ^ (8 - a.val) = r.val ∧ pos r' = partner 9 a.val (pos r) := by
  have h : ∀ (a : Fin 9) (r : Fin 512), r.val / 2 ^ (8 - a.val) % 2 = 1 →
      (pos r).val &&& 2 ^ a.val ≠ 0 ∧ 2 ^ (8 - a.val) ≤ r.val ∧
        revBits (r.val - 2 ^ (8 - a.val)) = (partner 9 a.val (pos r)).val := by decide +kernel
  intro a r hr
  obtain ⟨h1, h2, h3⟩ := h a r hr
  exact ⟨h1, ⟨r.val - 2 ^ (8 - a.val), lt_of_le_of_lt (Nat.sub_le _ _) r.isLt⟩, Nat.sub_add_cancel h2, Fin.ext h3⟩

theorem rowIota_apply (r : Fin 512) : rowIota (ix2 r (0 : Fin 1)) = BitVec.ofNat 32 r.val := by
  unfold rowIota iota
  rw [List.foldl_cons, List.foldl_nil, Nat.zero_mul, Nat.zero_add]

/-- One row's number divided by `d`, rounding down, as printed. -/
def floorDivAt (d r : BitVec 32) : BitVec 32 :=
  Scalar.select
    (IntOp.andi
      (IntOp.cmpi .ne (IntOp.subi (Scalar.extui (IntOp.cmpi .sgt r 0#32) : BitVec 32) (Scalar.extui (IntOp.cmpi .slt r 0#32) : BitVec 32)) 1#32)
      (IntOp.cmpi .ne (IntOp.remsi .vector r d) 0#32))
    (IntOp.subi (IntOp.divsi .vector r d) 1#32) (IntOp.divsi .vector r d)

theorem isSecond_at (d : BitVec 32) (r : Fin 512) :
    isSecond d (ix2 r (0 : Fin 1)) = IntOp.cmpi .eq (IntOp.andi (floorDivAt d (BitVec.ofNat 32 r.val)) 1#32) 1#32 := by
  rw [← rowIota_apply]; rfl

theorem isSecond_four (r : Fin 512) : isSecond 4#32 (ix2 r (0 : Fin 1)) = BitVec.ofBool (decide (r.val / 4 % 2 = 1)) := by
  rw [isSecond_at]; revert r; decide +kernel

theorem isSecond_two (r : Fin 512) : isSecond 2#32 (ix2 r (0 : Fin 1)) = BitVec.ofBool (decide (r.val / 2 % 2 = 1)) := by
  rw [isSecond_at]; revert r; decide +kernel

theorem isSecond_one (r : Fin 512) : isSecond 1#32 (ix2 r (0 : Fin 1)) = BitVec.ofBool (decide (r.val / 1 % 2 = 1)) := by
  rw [isSecond_at]; revert r; decide +kernel

/-- The direction of level `k` is bit `k` of the position. -/
theorem descAt_apply (k : Fin 9) (r : Fin 512) :
    descAt k.val (ix2 r (0 : Fin 1)) = BitVec.ofBool (decide ((pos r).val &&& 2 ^ k.val = 0)) := by
  have e : descAt k.val (ix2 r (0 : Fin 1))
      = IntOp.cmpi .eq (IntOp.andi (IntOp.shrsi .vector (rowIota (ix2 r (0 : Fin 1))) (BitVec.ofNat 32 (8 - k.val))) 1#32) 0#32 := rfl
  rw [e, rowIota_apply]; revert k r; decide +kernel

theorem allRows_apply (r : Fin 512) : allRows (ix2 r (0 : Fin 1)) = BitVec.ofBool true := rfl

theorem noRows_apply (r : Fin 512) : noRows (ix2 r (0 : Fin 1)) = BitVec.ofBool false := by
  show IntOp.xori (IntOp.cmpi .sgt 1#32 0#32) 1#1 = BitVec.ofBool false
  decide

theorem noRows'_apply (r : Fin 512) : noRows' (ix2 r (0 : Fin 1)) = BitVec.ofBool false := by
  have e : noRows' (ix2 r (0 : Fin 1)) = IntOp.cmpi .slt (rowIota (ix2 r (0 : Fin 1))) 0#32 := rfl
  rw [e, rowIota_apply]; revert r; decide +kernel

end Cert.KernelIdeal.Hand

end
-- ==== Proof.Exchange.lean ====
/- Every exchange of the sort's arm is one stage of the bitonic network on each column's entries, an entry being a key with
   the row it came from, the greater key first and of equal keys the smaller row. -/
module

public import proofs.«01_k».proof.Proof.Sides
public import proofs.«01_k».proof.Proof.Rows

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx Idealize.ShloMosaic.SortNet

/-- An entry: a key and the row it came from, ordered by key and then against the row. -/
abbrev Ent : Type := EReal ×ₗ (Fin 2048)ᵒᵈ

/-- An entry's key. -/
def keyE (e : Ent) : EReal := (ofLex e).1
/-- The row an entry came from, as a word. -/
def idxE (e : Ent) : BitVec 32 := BitVec.ofNat 32 (OrderDual.ofDual (ofLex e).2).val

/-- The block `x` holds the entries `v`: row `r` of column `c` holds the entry at the position `r` stands for. -/
def Rep (x : St Ideal) (v : Fin 128 → Fin (2 ^ 9) → Ent) : Prop :=
  ∀ (c : Fin 128) (r : Fin 512), x.1 (ix2 r c) = keyE (v c (pos r)) ∧ x.2 (ix2 r c) = idxE (v c (pos r))

/-- `beats` of two single entries. -/
def beatsAt (a b : EReal) (i j : BitVec 32) : BitVec 1 :=
  IntOp.ori (Ideal.cmp .ogt a b) (IntOp.andi (Ideal.cmp .oeq a b) (IntOp.cmpi .slt i j))

theorem beats_apply {s : Shape} (va vb : FVec Ideal s .f32) (ia ib : IVec s 32) (j : s.Idx) :
    beats va vb ia ib j = beatsAt (va j) (vb j) (ia j) (ib j) := rfl

theorem slt_ofNat (i j : Fin 2048) : (BitVec.ofNat 32 i.val).slt (BitVec.ofNat 32 j.val) = decide (i.val < j.val) := by
  have hi := i.isLt
  have hj := j.isLt
  have e : ∀ n : Nat, n < 2048 → (BitVec.ofNat 32 n).toInt = (n : Int) := by
    intro n hn
    have hm : (BitVec.ofNat 32 n).toNat = n := by rw [BitVec.toNat_ofNat, Nat.mod_eq_of_lt (by omega)]
    rw [BitVec.toInt_eq_toNat_of_lt (by rw [hm]; omega), hm]
  rw [BitVec.slt_eq_decide, e _ hi, e _ hj]
  exact decide_eq_decide.mpr Int.ofNat_lt

/-- One entry beats another exactly when it is the greater. -/
theorem beatsAt_eq (a b : Ent) : beatsAt (keyE a) (keyE b) (idxE a) (idxE b) = BitVec.ofBool (decide (b < a)) := by
  have hlt : b < a ↔ keyE b < keyE a ∨ keyE b = keyE a ∧ (OrderDual.ofDual (ofLex a).2).val < (OrderDual.ofDual (ofLex b).2).val :=
    Prod.Lex.lt_iff
  unfold beatsAt Ideal.cmp IntOp.cmpi
  rw [show (idxE a).slt (idxE b) = decide ((OrderDual.ofDual (ofLex a).2).val < (OrderDual.ofDual (ofLex b).2).val) from slt_ofNat _ _]
  simp only [hlt, eq_comm (a := keyE a)]
  by_cases h1 : keyE b < keyE a <;> by_cases h2 : keyE b = keyE a <;>
    by_cases h3 : (OrderDual.ofDual (ofLex a).2).val < (OrderDual.ofDual (ofLex b).2).val <;>
    simp [h1, h2, h3, IntOp.ori, IntOp.andi]

/-- The direction `r` sends the greater entry to the lower position exactly where `low` holds. -/
def Goes (r : Dir) (low : Fin (2 ^ 9) → Bool) : Prop :=
  match r with
  | none => ∀ p, low p = true
  | some desc => ∀ r : Fin 512, desc (ix2 r (0 : Fin 1)) = BitVec.ofBool (low (pos r))

/-- A select of one of two entries, read at its key and its row. -/
theorem ite_key (b : Bool) (u w : Ent) : (if b then keyE u else keyE w) = keyE (if b then u else w) := by cases b <;> rfl
theorem ite_idx (b : Bool) (u w : Ent) : (if b then idxE u else idxE w) = idxE (if b then u else w) := by cases b <;> rfl

/-- What the lower position of a pair is left with. -/
theorem low_eq (u w : Ent) (b : Bool) :
    (if (decide (w < u) ^^ b) then w else u) = if decide (w < u) = b then u else w := by
  by_cases h : w < u <;> cases b <;> simp [h]

/-- What the upper position of a pair is left with. -/
theorem high_eq (u w : Ent) (b : Bool) :
    (if (decide (w < u) ^^ b) then u else w) = if decide (u < w) = (true ^^ b) then w else u := by
  rcases lt_trichotomy u w with h | h | h
  · have h' : ¬ w < u := not_lt.mpr h.le
    cases b <;> simp [h, h']
  · subst h; cases b <;> simp
  · have h' : ¬ u < w := not_lt.mpr h.le
    cases b <;> simp [h, h']

/-- The stage read as its one select. -/
theorem stage_apply (a : Nat) (ha : a < 9) (low : Fin (2 ^ 9) → Bool) (hlow : ∀ j, low (partner 9 a j) = low j)
    (v : Fin (2 ^ 9) → Ent) (j : Fin (2 ^ 9)) :
    Network.apply (stage 9 a low) v j = if decide (v (partner 9 a j) < v j) = upperXor a low j then v j else v (partner 9 a j) := by
  rw [← stage_upperXor]
  exact apply_stage_select ha _ (fun j => upperXor_partner ha low j (hlow j)) v j

/-- The exchange between halves is a stage. -/
theorem hiStep_rep {o d : Nat} (h : HiFacts o d) (a : Fin 9) (hd : d = 2 ^ (8 - a.val)) (hod : o * 2 * d = 512)
    (flip : IVec (Sh3 o d 128) 1) (low : Fin (2 ^ 9) → Bool) (hlow : ∀ j, low (partner 9 a.val j) = low j)
    (hflip : ∀ (g : Fin o) (t : Fin d) (c : Fin 128) (r : Fin 512), r.val = (g.val * 2) * d + t.val →
      flip (ix3 g t c) = BitVec.ofBool (low (pos r)))
    (x : St Ideal) (v : Fin 128 → Fin (2 ^ 9) → Ent) (hx : Rep x v) :
    Rep (hiStep h flip x) (fun c => Network.apply (stage 9 a.val low) (v c)) := by
  have hd0 : 0 < d := by rw [hd]; exact Nat.two_pow_pos _
  intro c r
  have hg : r.val / d / 2 < o := by
    rw [Nat.div_div_eq_div_mul]
    have e : d * 2 * o = 512 := by rw [← hod, Nat.mul_comm, Nat.mul_comm d, Nat.mul_assoc]
    exact Nat.div_lt_of_lt_mul (by rw [e]; exact r.isLt)
  have hr : r.val = (r.val / d / 2 * 2 + r.val / d % 2) * d + r.val % d := by
    rw [Nat.div_add_mod' (r.val / d) 2, Nat.div_add_mod' r.val d]
  dsimp only
  rw [stage_apply a.val a.isLt low hlow]
  rcases Nat.mod_two_eq_zero_or_one (r.val / d) with hb | hb
  · obtain ⟨hclear, r', hr', hp⟩ := pos_clear a r (by rw [← hd]; exact hb)
    rw [hb, Nat.add_zero] at hr
    have hr2 : r'.val = (r.val / d / 2 * 2 + 1) * d + r.val % d := by rw [hr', ← hd, Nat.add_mul]; omega
    have s0 := fun {β : Type} (y : S512x128.Idx → β) => side0_apply h y ⟨_, hg⟩ ⟨_, Nat.mod_lt r.val hd0⟩ c r hr
    have s1 := fun {β : Type} (y : S512x128.Idx → β) => side1_apply h y ⟨_, hg⟩ ⟨_, Nat.mod_lt r.val hd0⟩ c r' hr2
    have hu : upperXor a.val low (pos r) = low (pos r) := by
      unfold upperXor; rw [decide_eq_false (fun hn => hn hclear), Bool.false_xor]
    have hf := hflip ⟨_, hg⟩ ⟨_, Nat.mod_lt r.val hd0⟩ c r hr
    obtain ⟨k1, i1⟩ := hx c r
    obtain ⟨k2, i2⟩ := hx c r'
    rw [hu, ← hp, ← low_eq]
    constructor
    · show sides h _ _ (ix2 r c) = _
      rw [sides_first h _ _ ⟨_, hg⟩ ⟨_, Nat.mod_lt r.val hd0⟩ c r hr]
      show Scalar.select (IntOp.xori (beatsAt _ _ _ _) _) _ _ = _
      rw [s0, s1, s0, s1, hf, k1, k2, i1, i2, beatsAt_eq, ofBool_xor, select_ofBool, ite_key]
    · show sides h _ _ (ix2 r c) = _
      rw [sides_first h _ _ ⟨_, hg⟩ ⟨_, Nat.mod_lt r.val hd0⟩ c r hr]
      show Scalar.select (IntOp.xori (beatsAt _ _ _ _) _) _ _ = _
      rw [s0, s1, s0, s1, hf, k1, k2, i1, i2, beatsAt_eq, ofBool_xor, select_ofBool, ite_idx]
  · obtain ⟨hset, r', hr', hp⟩ := pos_set a r (by rw [← hd]; exact hb)
    rw [hb] at hr
    have hr2 : r'.val = (r.val / d / 2 * 2) * d + r.val % d := by
      rw [← hd] at hr'; rw [Nat.add_mul, Nat.one_mul] at hr; omega
    have s0 := fun {β : Type} (y : S512x128.Idx → β) => side0_apply h y ⟨_, hg⟩ ⟨_, Nat.mod_lt r.val hd0⟩ c r' hr2
    have s1 := fun {β : Type} (y : S512x128.Idx → β) => side1_apply h y ⟨_, hg⟩ ⟨_, Nat.mod_lt r.val hd0⟩ c r hr
    have hu : upperXor a.val low (pos r) = (true ^^ low (pos r')) := by
      unfold upperXor; rw [decide_eq_true hset, hp, hlow]
    have hf := hflip ⟨_, hg⟩ ⟨_, Nat.mod_lt r.val hd0⟩ c r' hr2
    obtain ⟨k1, i1⟩ := hx c r
    obtain ⟨k2, i2⟩ := hx c r'
    rw [hu, ← hp, ← high_eq]
    constructor
    · show sides h _ _ (ix2 r c) = _
      rw [sides_second h _ _ ⟨_, hg⟩ ⟨_, Nat.mod_lt r.val hd0⟩ c r hr]
      show Scalar.select (IntOp.xori (beatsAt _ _ _ _) _) _ _ = _
      rw [s0, s1, s0, s1, hf, k1, k2, i1, i2, beatsAt_eq, ofBool_xor, select_ofBool, ite_key]
    · show sides h _ _ (ix2 r c) = _
      rw [sides_second h _ _ ⟨_, hg⟩ ⟨_, Nat.mod_lt r.val hd0⟩ c r hr]
      show Scalar.select (IntOp.xori (beatsAt _ _ _ _) _) _ _ = _
      rw [s0, s1, s0, s1, hf, k1, k2, i1, i2, beatsAt_eq, ofBool_xor, select_ofBool, ite_idx]

/-- The flag of the exchange between halves sends the greater entry where the direction says. -/
theorem hiKeep_goes {o d : Nat} (m : HiMask o d) (r : Dir) (low : Fin (2 ^ 9) → Bool) (hr : Goes r low)
    (g : Fin o) (t : Fin d) (c : Fin 128) (q : Fin 512) (hq : q.val = (g.val * 2) * d + t.val) :
    hiKeep m r (ix3 g t c) = BitVec.ofBool (low (pos q)) := by
  cases r with
  | none => rw [show low (pos q) = true from hr _]; rfl
  | some desc => exact (hiFlip_apply m desc g t c q hq).trans (hr q)

/-- The exchange by rolling is a stage. -/
theorem loStep_rep {d e : Nat} (h : LoFacts d e) (a : Fin 9) (hd : d = 2 ^ (8 - a.val)) (hde : d + e = 512)
    (w : BitVec 32) (hw : ∀ r : Fin 512, isSecond w (ix2 r (0 : Fin 1)) = BitVec.ofBool (decide (r.val / d % 2 = 1)))
    (dir : Dir) (low : Fin (2 ^ 9) → Bool) (hdir : Goes dir low) (hlow : ∀ j, low (partner 9 a.val j) = low j)
    (x : St Ideal) (v : Fin 128 → Fin (2 ^ 9) → Ent) (hx : Rep x v) :
    Rep (loStep h (isSecond w) (loKeep w dir) x) (fun c => Network.apply (stage 9 a.val low) (v c)) := by
  have key : ∀ (c : Fin 128) (r r' : Fin 512), pos r' = partner 9 a.val (pos r) →
      (∀ {β : Type} (y : S512x128.Idx → β), rolled h (isSecond w) y (ix2 r c) = y (ix2 r' c)) →
      loKeep w dir (ix2 r (0 : Fin 1)) = BitVec.ofBool (upperXor a.val low (pos r)) →
      (loStep h (isSecond w) (loKeep w dir) x).1 (ix2 r c) = keyE (Network.apply (stage 9 a.val low) (v c) (pos r)) ∧
      (loStep h (isSecond w) (loKeep w dir) x).2 (ix2 r c) = idxE (Network.apply (stage 9 a.val low) (v c) (pos r)) := by
    intro c r r' hp hroll hkeep
    obtain ⟨k1, i1⟩ := hx c r
    obtain ⟨k2, i2⟩ := hx c r'
    have hsel : loSel h (isSecond w) (loKeep w dir) x (ix2 r c)
        = BitVec.ofBool (decide (decide (v c (pos r') < v c (pos r)) = upperXor a.val low (pos r))) := by
      have hb : broadcastTo S512x128 (broadcastTo S512x128 (loKeep w dir) broadcasts_S512x1_S512x128) broadcasts_S512x128_S512x128 (ix2 r c)
          = BitVec.ofBool (upperXor a.val low (pos r)) := by
        rw [broadcastTo_apply _ _ (ix2 r c) (ix2 r c) (by
            intro a
            match a with
            | ⟨0, _⟩ => rfl
            | ⟨1, _⟩ => rfl), broadcastTo_apply _ _ (ix2 r c) (ix2 r (0 : Fin 1)) (by
            intro a
            match a with
            | ⟨0, _⟩ => rfl
            | ⟨1, _⟩ => rfl), hkeep]
      show IntOp.xori (IntOp.xori (beatsAt (x.1 (ix2 r c)) (rolled h (isSecond w) x.1 (ix2 r c)) (x.2 (ix2 r c)) (rolled h (isSecond w) x.2 (ix2 r c)))
        (broadcastTo S512x128 (broadcastTo S512x128 (loKeep w dir) broadcasts_S512x1_S512x128) broadcasts_S512x128_S512x128 (ix2 r c))) 1#1 = _
      rw [hb, hroll, hroll, k1, k2, i1, i2, beatsAt_eq, ofBool_xor_xor_one]
    rw [stage_apply a.val a.isLt low hlow, ← hp]
    constructor
    · show Scalar.select (loSel h (isSecond w) (loKeep w dir) x (ix2 r c)) (x.1 (ix2 r c)) (rolled h (isSecond w) x.1 (ix2 r c)) = _
      rw [hsel, hroll, k1, k2, select_ofBool, ite_key]
      simp only [decide_eq_true_eq]
    · show Scalar.select (loSel h (isSecond w) (loKeep w dir) x (ix2 r c)) (x.2 (ix2 r c)) (rolled h (isSecond w) x.2 (ix2 r c)) = _
      rw [hsel, hroll, i1, i2, select_ofBool, ite_idx]
      simp only [decide_eq_true_eq]
  have keep : ∀ (r : Fin 512) (b : Bool), isSecond w (ix2 r (0 : Fin 1)) = BitVec.ofBool b →
      loKeep w dir (ix2 r (0 : Fin 1)) = BitVec.ofBool (b ^^ low (pos r)) := by
    intro r b hb
    cases dir with
    | none =>
      show IntOp.xori (isSecond w (ix2 r (0 : Fin 1))) 1#1 = _
      rw [hb, show low (pos r) = true from hdir _]
      exact ofBool_xor b true
    | some desc =>
      show IntOp.xori (desc (ix2 r (0 : Fin 1))) (isSecond w (ix2 r (0 : Fin 1))) = _
      rw [hb, show desc (ix2 r (0 : Fin 1)) = BitVec.ofBool (low (pos r)) from hdir r, ofBool_xor, Bool.xor_comm]
  intro c r
  rcases Nat.mod_two_eq_zero_or_one (r.val / d) with hb | hb
  · obtain ⟨hclear, r', hr', hp⟩ := pos_clear a r (by rw [← hd]; exact hb)
    rw [← hd] at hr'
    have hs := hw r
    rw [decide_eq_false (by omega)] at hs
    refine key c r r' hp (fun y => rolled_first h _ y c r r' hs hde hr') ?_
    rw [keep r _ hs]
    unfold upperXor
    rw [decide_eq_false (fun hn => hn hclear)]
  · obtain ⟨hset, r', hr', hp⟩ := pos_set a r (by rw [← hd]; exact hb)
    rw [← hd] at hr'
    have hs := hw r
    rw [decide_eq_true hb] at hs
    refine key c r r' hp (fun y => rolled_second h _ y c r r' hs hde hr') ?_
    rw [keep r _ hs]
    unfold upperXor
    rw [decide_eq_true hset]

/-- Every exchange is a stage, at logical distance `2^a`. -/
theorem sub_rep (a : Nat) (ha : a < 9) (dir : Dir) (low : Fin (2 ^ 9) → Bool) (hdir : Goes dir low)
    (hlow : ∀ j, low (partner 9 a j) = low j) (x : St Ideal) (v : Fin 128 → Fin (2 ^ 9) → Ent) (hx : Rep x v) :
    Rep (sub a dir x) (fun c => Network.apply (stage 9 a low) (v c)) := by
  match a, ha, hlow with
  | 0, _, hlow => exact hiStep_rep hi256 0 rfl rfl _ low hlow (hiKeep_goes hm256 dir low hdir) x v hx
  | 1, _, hlow => exact hiStep_rep hi128 1 rfl rfl _ low hlow (hiKeep_goes hm128 dir low hdir) x v hx
  | 2, _, hlow => exact hiStep_rep hi64 2 rfl rfl _ low hlow (hiKeep_goes hm64 dir low hdir) x v hx
  | 3, _, hlow => exact hiStep_rep hi32 3 rfl rfl _ low hlow (hiKeep_goes hm32 dir low hdir) x v hx
  | 4, _, hlow => exact hiStep_rep hi16 4 rfl rfl _ low hlow (hiKeep_goes hm16 dir low hdir) x v hx
  | 5, _, hlow => exact hiStep_rep hi8 5 rfl rfl _ low hlow (hiKeep_goes hm8 dir low hdir) x v hx
  | 6, _, hlow => exact loStep_rep lo4 6 rfl rfl _ isSecond_four dir low hdir hlow x v hx
  | 7, _, hlow => exact loStep_rep lo2 7 rfl rfl _ isSecond_two dir low hdir hlow x v hx
  | 8, _, hlow => exact loStep_rep lo1 8 rfl rfl _ isSecond_one dir low hdir hlow x v hx

end Cert.KernelIdeal.Hand

end
-- ==== Proof.Sorted.lean ====
/- The whole network: its levels are the levels of the bitonic sort, and what it leaves in a column is the 512 greatest of the
   column's 2048 entries, in descending order. -/
module

public import proofs.«01_k».proof.Proof.Exchange

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx Idealize.ShloMosaic.SortNet

/-- A level is its stages, the greatest distance first. -/
theorem level_rep : ∀ (k : Nat) (_ : k ≤ 9) (dir : Dir) (low : Fin (2 ^ 9) → Bool) (_ : Goes dir low)
    (_ : ∀ a, a < k → ∀ j, low (partner 9 a j) = low j) (x : St Ideal) (v : Fin 128 → Fin (2 ^ 9) → Ent) (_ : Rep x v),
    Rep (level k dir x) (fun c => Network.apply ((List.range k).reverse.flatMap fun s => stage 9 s low) (v c))
  | 0, _, _, _, _, _, _, _, hx => hx
  | k + 1, hk, dir, low, hdir, hlow, x, v, hx => by
    have h := level_rep k (by omega) dir low hdir (fun a ha => hlow a (by omega)) _ _
      (sub_rep k (by omega) dir low hdir (hlow k (by omega)) x v hx)
    intro c r
    have e : Network.apply ((List.range (k + 1)).reverse.flatMap fun s => stage 9 s low) (v c)
        = Network.apply ((List.range k).reverse.flatMap fun s => stage 9 s low) (Network.apply (stage 9 k low) (v c)) := by
      rw [List.range_succ, List.reverse_append, List.reverse_singleton, List.singleton_append, List.flatMap_cons, Network.apply_append]
    dsimp only
    rw [e]
    exact h c r

/-- The levels before the last are the bitonic sort's. -/
theorem levels_rep : ∀ (k : Nat) (_ : k ≤ 8) (x : St Ideal) (v : Fin 128 → Fin (2 ^ 9) → Ent) (_ : Rep x v),
    Rep (levels k x) (fun c => Network.apply (levelsNet 9 true k) (v c))
  | 0, _, _, _, hx => hx
  | k + 1, hk, x, v, hx => by
    have h := level_rep (k + 1) (by omega) (some (descAt (k + 1))) (fun i => (decide (i.val &&& 2 ^ (k + 1) = 0)) == true)
      (fun r => (descAt_apply ⟨k + 1, by omega⟩ r).trans (congrArg BitVec.ofBool (beq_true _).symm))
      (fun a ha j => sizeClear_partner (by omega) (by omega) true j) _ _ (levels_rep k (by omega) x v hx)
    intro c r
    have e : Network.apply (levelsNet 9 true (k + 1)) (v c) = Network.apply (levelNet 9 true k) (Network.apply (levelsNet 9 true k) (v c)) := by
      rw [levelsNet_succ, Network.apply_append]
    dsimp only
    rw [e]
    exact h c r

/-- The last level, sending every greater entry down or up. -/
theorem merge_rep (dir : Dir) (b : Bool) (hdir : Goes dir fun _ => b) (x : St Ideal) (v : Fin 128 → Fin (2 ^ 9) → Ent) (hx : Rep x v) :
    Rep (level 9 dir x) (fun c => Network.apply ((List.range 9).reverse.flatMap fun s => stage 9 s fun _ => b) (v c)) :=
  level_rep 9 (le_refl 9) dir (fun _ => b) hdir (fun _ _ _ => rfl) x v hx

theorem mergeDown_rep (dir : Dir) (hdir : Goes dir fun _ => true) (x : St Ideal) (v : Fin 128 → Fin (2 ^ 9) → Ent) (hx : Rep x v) :
    Rep (level 9 dir x) (fun c => Network.apply (mergeDescNet 9) (v c)) := merge_rep dir true hdir x v hx

theorem mergeUp_rep (dir : Dir) (hdir : Goes dir fun _ => false) (x : St Ideal) (v : Fin 128 → Fin (2 ^ 9) → Ent) (hx : Rep x v) :
    Rep (level 9 dir x) (fun c => Network.apply (mergeAscNet 9) (v c)) := merge_rep dir false hdir x v hx

/-- After eight levels a column descends and then ascends. -/
theorem levels_descAsc (v : Fin (2 ^ 9) → Ent) : DescAsc (Network.apply (levelsNet 9 true 8) v) := by
  have h0 := (sortNet_levels 9 true v 8 (by omega) ⟨0, by decide⟩).1 rfl
  have h1 := (sortNet_levels 9 true v 8 (by omega) ⟨1, by decide⟩).2 rfl
  refine ⟨256, Or.inl ⟨fun i j hij hj => ?_, fun i j hij hi => ?_⟩⟩
  · have hij' : i.val ≤ j.val := hij
    have := @h0 ⟨i.val, show i.val < 256 by omega⟩ ⟨j.val, hj⟩ hij
    have ei : chunkPos (P := 9) (p := 8) (by omega) ⟨0, by decide⟩ ⟨i.val, show i.val < 256 by omega⟩ = i :=
      Fin.ext (by show 0 * 2 ^ 8 + i.val = i.val; omega)
    have ej : chunkPos (P := 9) (p := 8) (by omega) ⟨0, by decide⟩ ⟨j.val, hj⟩ = j :=
      Fin.ext (by show 0 * 2 ^ 8 + j.val = j.val; omega)
    dsimp only at this
    rwa [ei, ej] at this
  · have hij' : i.val ≤ j.val := hij
    have hi9 : i.val < 512 := i.isLt
    have hj9 : j.val < 512 := j.isLt
    have := @h1 ⟨i.val - 256, show i.val - 256 < 256 by omega⟩ ⟨j.val - 256, show j.val - 256 < 256 by omega⟩
      (show i.val - 256 ≤ j.val - 256 by omega)
    have ei : chunkPos (P := 9) (p := 8) (by omega) ⟨1, by decide⟩ ⟨i.val - 256, show i.val - 256 < 256 by omega⟩ = i :=
      Fin.ext (by show 1 * 2 ^ 8 + (i.val - 256) = i.val; omega)
    have ej : chunkPos (P := 9) (p := 8) (by omega) ⟨1, by decide⟩ ⟨j.val - 256, show j.val - 256 < 256 by omega⟩ = j :=
      Fin.ext (by show 1 * 2 ^ 8 + (j.val - 256) = j.val; omega)
    dsimp only at this
    rwa [ei, ej] at this

/-- A network's entries are the entries it was given, in some order. -/
theorem ofFn_apply_perm (N : Network (2 ^ 9)) (v : Fin (2 ^ 9) → Ent) : (List.ofFn (Network.apply N v)).Perm (List.ofFn v) := by
  obtain ⟨σ, hσ⟩ := Network.exists_perm N v
  rw [hσ]
  exact Equiv.Perm.ofFn_comp_perm σ v

/-- A chunk sorted downwards. -/
def downs (v : Fin (2 ^ 9) → Ent) : Fin (2 ^ 9) → Ent := Network.apply (mergeDescNet 9) (Network.apply (levelsNet 9 true 8) v)
/-- A chunk sorted upwards. -/
def ups (v : Fin (2 ^ 9) → Ent) : Fin (2 ^ 9) → Ent := Network.apply (mergeAscNet 9) (Network.apply (levelsNet 9 true 8) v)

theorem downs_antitone (v : Fin (2 ^ 9) → Ent) : Antitone (downs v) := mergeDescNet_apply_antitone 9 _ (levels_descAsc v)
theorem ups_monotone (v : Fin (2 ^ 9) → Ent) : Monotone (ups v) := mergeAscNet_apply_monotone 9 _ (levels_descAsc v)
theorem downs_perm (v : Fin (2 ^ 9) → Ent) : (List.ofFn (downs v)).Perm (List.ofFn v) :=
  (ofFn_apply_perm _ _).trans (ofFn_apply_perm _ _)
theorem ups_perm (v : Fin (2 ^ 9) → Ent) : (List.ofFn (ups v)).Perm (List.ofFn v) :=
  (ofFn_apply_perm _ _).trans (ofFn_apply_perm _ _)

theorem sortDown_rep (x : St Ideal) (v : Fin 128 → Fin (2 ^ 9) → Ent) (hx : Rep x v) :
    Rep (sortChunk allRows x) (fun c => downs (v c)) :=
  mergeDown_rep (some allRows) allRows_apply _ _ (levels_rep 8 (le_refl 8) x v hx)

theorem sortUp_rep (x : St Ideal) (v : Fin 128 → Fin (2 ^ 9) → Ent) (hx : Rep x v) :
    Rep (sortChunk noRows x) (fun c => ups (v c)) :=
  mergeUp_rep (some noRows) noRows_apply _ _ (levels_rep 8 (le_refl 8) x v hx)

/-- The first of two entries is the greater. -/
theorem first_rep (x y : St Ideal) (v w : Fin 128 → Fin (2 ^ 9) → Ent) (hx : Rep x v) (hy : Rep y w) :
    Rep (first x y) (fun c j => max (v c j) (w c j)) := by
  intro c r
  obtain ⟨k1, i1⟩ := hx c r
  obtain ⟨k2, i2⟩ := hy c r
  have hm : (if decide (w c (pos r) < v c (pos r)) then v c (pos r) else w c (pos r)) = max (v c (pos r)) (w c (pos r)) := by
    rcases lt_or_ge (w c (pos r)) (v c (pos r)) with h | h
    · rw [if_pos (decide_eq_true h), max_eq_left h.le]
    · rw [if_neg (by simpa using h), max_eq_right h]
  constructor
  · show Scalar.select (beatsAt (x.1 (ix2 r c)) (y.1 (ix2 r c)) (x.2 (ix2 r c)) (y.2 (ix2 r c))) (x.1 (ix2 r c)) (y.1 (ix2 r c)) = _
    rw [k1, k2, i1, i2, beatsAt_eq, select_ofBool, ite_key, hm]
  · show Scalar.select (beatsAt (x.1 (ix2 r c)) (y.1 (ix2 r c)) (x.2 (ix2 r c)) (y.2 (ix2 r c))) (x.2 (ix2 r c)) (y.2 (ix2 r c)) = _
    rw [k1, k2, i1, i2, beatsAt_eq, select_ofBool, ite_idx, hm]

/-- The entry of row `i` of column `c` of the scores. -/
def entAt (L : Vec Ideal S1x2048x128 .f32) (c : Fin 128) (i : Fin 2048) : Ent :=
  toLex ((L (ix3 (0 : Fin 1) i c) : EReal), OrderDual.toDual i)

/-- The entries of the 512 rows from `off` on. -/
def chunkEnt (L : Vec Ideal S1x2048x128 .f32) (off : Nat) (hoff : off + 512 ≤ 2048) (c : Fin 128) (p : Fin (2 ^ 9)) : Ent :=
  entAt L c ⟨off + (rowAt p).val, by have := (rowAt p).isLt; omega⟩

theorem chunk_rep (L : Vec Ideal S1x2048x128 .f32) (off : Nat) (hoff : off + 512 ≤ 2048) (h : S2048x128.Slices ![off, 0] S512x128) :
    Rep (chunk L off h) (chunkEnt L off hoff) := by
  intro c r
  have hlt : off + r.val < 2048 := by have := r.isLt; omega
  have e : chunkEnt L off hoff c (pos r) = entAt L c ⟨off + r.val, hlt⟩ := by
    unfold chunkEnt
    congr 1
    exact Fin.ext (by show off + (rowAt (pos r)).val = off + r.val; rw [rowAt_pos])
  rw [e]
  constructor
  · show extractStridedSlice S512x128 ![off, 0] (shapeCast S2048x128 L shapeCasts_S1x2048x128_S2048x128) h (ix2 r c) = L (ix3 (0 : Fin 1) ⟨off + r.val, hlt⟩ c)
    rw [extractStridedSlice_apply _ _ h (ix2 r c) (ix2 (⟨off + r.val, hlt⟩ : Fin 2048) c) (by
      intro a
      match a with
      | ⟨0, _⟩ => rfl
      | ⟨1, _⟩ => exact (Nat.zero_add _).symm)]
    exact shapeCast_apply _ _ _ (ix3 (0 : Fin 1) (⟨off + r.val, hlt⟩ : Fin 2048) c) (by
      rw [Shape.rowMajor_val_three, Shape.rowMajor_val_two]
      show ((0 * 2048 + (off + r.val)) * 128 + c.val) = (off + r.val) * 128 + c.val
      rw [Nat.zero_mul, Nat.zero_add])
  · show extractStridedSlice S512x128 ![off, 0] (iota .tc S2048x128 32 [0] iota_S2048x128_d0_w32) h (ix2 r c) = BitVec.ofNat 32 (off + r.val)
    rw [extractStridedSlice_apply _ _ h (ix2 r c) (ix2 (⟨off + r.val, hlt⟩ : Fin 2048) c) (by
      intro a
      match a with
      | ⟨0, _⟩ => rfl
      | ⟨1, _⟩ => exact (Nat.zero_add _).symm)]
    unfold iota
    rw [List.foldl_cons, List.foldl_nil, Nat.zero_mul, Nat.zero_add]

/-- All the entries of a column. -/
def allEnts (L : Vec Ideal S1x2048x128 .f32) (c : Fin 128) : List Ent := (List.finRange 2048).map (entAt L c)

theorem entAt_injective (L : Vec Ideal S1x2048x128 .f32) (c : Fin 128) : Function.Injective (entAt L c) := by
  intro i j h
  exact congrArg (fun e : Ent => OrderDual.ofDual (ofLex e).2) h

/-- The four chunks hold all the entries. -/
theorem chunks_perm (L : Vec Ideal S1x2048x128 .f32) (c : Fin 128) :
    ((List.ofFn (chunkEnt L 0 (by omega) c) ++ List.ofFn (chunkEnt L 512 (by omega) c))
      ++ (List.ofFn (chunkEnt L 1024 (by omega) c) ++ List.ofFn (chunkEnt L 1536 (by omega) c))).Perm (allEnts L c) := by
  have hmem : ∀ (off : Nat) (hoff : off + 512 ≤ 2048) (e : Ent),
      e ∈ List.ofFn (chunkEnt L off hoff c) ↔ ∃ i : Fin 2048, (off ≤ i.val ∧ i.val < off + 512) ∧ entAt L c i = e := by
    intro off hoff e
    rw [List.mem_ofFn']
    constructor
    · rintro ⟨p, rfl⟩
      exact ⟨_, ⟨Nat.le_add_right _ _, by have := (rowAt p).isLt; show off + (rowAt p).val < _; omega⟩, rfl⟩
    · rintro ⟨i, ⟨h1, h2⟩, rfl⟩
      refine ⟨pos ⟨i.val - off, by omega⟩, ?_⟩
      unfold chunkEnt
      congr 1
      refine Fin.ext ?_
      show off + (rowAt (pos _)).val = i.val
      rw [rowAt_pos]
      show off + (i.val - off) = i.val
      omega
  have hnd : ∀ (off : Nat) (hoff : off + 512 ≤ 2048), (List.ofFn (chunkEnt L off hoff c)).Nodup := by
    intro off hoff
    rw [List.nodup_ofFn]
    intro p q hpq
    have h := congrArg Fin.val (entAt_injective L c hpq)
    have h' : off + (rowAt p).val = off + (rowAt q).val := h
    have h2 : rowAt p = rowAt q := Fin.ext (by omega)
    rw [← pos_rowAt p, h2]
    exact pos_rowAt q
  have hdis : ∀ (o1 : Nat) (h1 : o1 + 512 ≤ 2048) (o2 : Nat) (h2 : o2 + 512 ≤ 2048), o1 + 512 ≤ o2 →
      List.Disjoint (List.ofFn (chunkEnt L o1 h1 c)) (List.ofFn (chunkEnt L o2 h2 c)) := by
    intro o1 h1 o2 h2 h12 e he1 he2
    obtain ⟨i, hi, ei⟩ := (hmem o1 h1 e).mp he1
    obtain ⟨j, hj, ej⟩ := (hmem o2 h2 e).mp he2
    have hij := entAt_injective L c (ei.trans ej.symm)
    subst hij
    omega
  rw [List.perm_ext_iff_of_nodup]
  · intro e
    rw [List.mem_append, List.mem_append, List.mem_append, hmem, hmem, hmem, hmem]
    unfold allEnts
    rw [List.mem_map]
    constructor
    · rintro ((⟨i, _, rfl⟩ | ⟨i, _, rfl⟩) | (⟨i, _, rfl⟩ | ⟨i, _, rfl⟩)) <;> exact ⟨i, List.mem_finRange i, rfl⟩
    · rintro ⟨i, _, rfl⟩
      have hi := i.isLt
      by_cases h1 : i.val < 512
      · exact Or.inl (Or.inl ⟨i, ⟨by omega, by omega⟩, rfl⟩)
      · by_cases h2 : i.val < 1024
        · exact Or.inl (Or.inr ⟨i, ⟨by omega, by omega⟩, rfl⟩)
        · by_cases h3 : i.val < 1536
          · exact Or.inr (Or.inl ⟨i, ⟨by omega, by omega⟩, rfl⟩)
          · exact Or.inr (Or.inr ⟨i, ⟨by omega, by omega⟩, rfl⟩)
  · refine (((hnd _ _).append (hnd _ _) (hdis _ _ _ _ (by omega))).append ((hnd _ _).append (hnd _ _) (hdis _ _ _ _ (by omega))) ?_)
    intro e he1 he2
    rcases List.mem_append.mp he1 with h1 | h1 <;> rcases List.mem_append.mp he2 with h2 | h2 <;>
      exact hdis _ _ _ _ (by omega) h1 h2
  · exact (List.nodup_finRange 2048).map (entAt_injective L c)

/-- The two pairs of chunks merged. -/
def pairDown (u w : Fin (2 ^ 9) → Ent) : Fin (2 ^ 9) → Ent := Network.apply (mergeDescNet 9) fun j => max (downs u j) (ups w j)
def pairUp (u w : Fin (2 ^ 9) → Ent) : Fin (2 ^ 9) → Ent := Network.apply (mergeAscNet 9) fun j => max (downs u j) (ups w j)

/-- What the network leaves in a column, by position. -/
def netEnt (L : Vec Ideal S1x2048x128 .f32) (c : Fin 128) : Fin (2 ^ 9) → Ent :=
  Network.apply (mergeDescNet 9) fun j =>
    max (pairDown (chunkEnt L 0 (by omega) c) (chunkEnt L 512 (by omega) c) j)
      (pairUp (chunkEnt L 1024 (by omega) c) (chunkEnt L 1536 (by omega) c) j)

theorem net_rep (L : Vec Ideal S1x2048x128 .f32) : Rep (net L) (netEnt L) :=
  mergeDown_rep none (fun _ => rfl) _ _ (first_rep _ _ _ _
    (mergeDown_rep none (fun _ => rfl) _ _ (first_rep _ _ _ _ (sortDown_rep _ _ (chunk_rep L 0 (by omega) _)) (sortUp_rep _ _ (chunk_rep L 512 (by omega) _))))
    (mergeUp_rep (some noRows') noRows'_apply _ _ (first_rep _ _ _ _ (sortDown_rep _ _ (chunk_rep L 1024 (by omega) _)) (sortUp_rep _ _ (chunk_rep L 1536 (by omega) _)))))

/-- The 512 greatest of two chunks sorted in opposite directions. -/
theorem pair_top (u w : Fin (2 ^ 9) → Ent) :
    topList (2 ^ 9) (List.ofFn (downs u) ++ List.ofFn (ups w)) = topList (2 ^ 9) (List.ofFn u ++ List.ofFn w) :=
  topList_perm ((downs_perm u).append (ups_perm w))

/-- The network leaves the 512 greatest of a column's entries, in descending order. -/
theorem netEnt_top (L : Vec Ideal S1x2048x128 .f32) (c : Fin 128) :
    List.ofFn (netEnt L c) = topList (2 ^ 9) (allEnts L c) := by
  have hA := foldStep 9 (downs (chunkEnt L 0 (by omega) c)) (ups (chunkEnt L 512 (by omega) c)) (downs_antitone _) (ups_monotone _)
  have hB := foldStep 9 (downs (chunkEnt L 1024 (by omega) c)) (ups (chunkEnt L 1536 (by omega) c)) (downs_antitone _) (ups_monotone _)
  have hM : Monotone (pairUp (chunkEnt L 1024 (by omega) c) (chunkEnt L 1536 (by omega) c)) :=
    mergeAscNet_apply_monotone 9 _ (descAsc_max _ _ (downs_antitone _) (ups_monotone _))
  have hP : (List.ofFn (pairUp (chunkEnt L 1024 (by omega) c) (chunkEnt L 1536 (by omega) c))).Perm
      (topList (2 ^ 9) (List.ofFn (chunkEnt L 1024 (by omega) c) ++ List.ofFn (chunkEnt L 1536 (by omega) c))) := by
    rw [← pair_top, ← hB.2]
    exact (ofFn_apply_perm _ _).trans (ofFn_apply_perm _ _).symm
  have hF := (foldStep 9 _ _ hA.1 hM).2
  refine hF.trans ?_
  rw [hA.2, pair_top, topList_append_topList, topList_perm (hP.append_left _), topList_perm List.perm_append_comm,
    topList_append_topList, topList_perm List.perm_append_comm, topList_perm (chunks_perm L c)]

end Cert.KernelIdeal.Hand

end
-- ==== Proof.Readout.lean ====
/- What the sort's arm stores: row `r` of the output block is the row number of the entry at position `r`. The kernel permutes
   the rows by a product with a 0/1 matrix, adds one half and truncates; on whole numbers below 2048 that is exact. -/
module

public import proofs.«01_k».proof.Proof.Sorted
public import Idealize.ShloMosaic.Lib.MatmulPlain

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx Idealize.ShloMosaic.SortNet

/-- Bit `a` of a row's word, moved to bit `b`. -/
def bitTo (x : BitVec 32) (a b : BitVec 32) : BitVec 32 :=
  IntOp.shli .vector (IntOp.andi (IntOp.shrsi .vector x a) 1#32) b

/-- The word of a row's nine bits reversed, as the kernel builds it. -/
def revWord (x : BitVec 32) : BitVec 32 :=
  IntOp.ori (IntOp.ori (IntOp.ori (IntOp.ori (IntOp.ori (IntOp.ori (IntOp.ori (IntOp.ori (IntOp.ori 0#32 (bitTo x 0#32 8#32))
    (bitTo x 1#32 7#32)) (bitTo x 2#32 6#32)) (bitTo x 3#32 5#32)) (bitTo x 4#32 4#32)) (bitTo x 5#32 3#32))
    (bitTo x 6#32 2#32)) (bitTo x 7#32 1#32)) (bitTo x 8#32 0#32)

theorem revWord_eq : ∀ r : Fin 512, revWord (BitVec.ofNat 32 r.val) = BitVec.ofNat 32 (rowAt r).val := by decide +kernel

theorem half_f32 : Ideal.ofBits .f32 0x3F000000#32 = (((1 : ℝ) / 2 : ℝ) : EReal) := by
  simp [Ideal.ofBits, Ideal.ieee, -EReal.coe_mul]; norm_num

/-- A whole number below 2048, one half added and truncated, is itself. -/
theorem fptosi_half (n : Nat) (hn : n < 2048) :
    Ideal.fptosi 32 (((n : ℝ) : EReal) + (((1 : ℝ) / 2 : ℝ) : EReal)) = BitVec.ofNat 32 n := by
  rw [← EReal.coe_add]
  have h0 : (0 : ℝ) ≤ (n : ℝ) + 1 / 2 := by positivity
  have hf : ⌊(n : ℝ) + 1 / 2⌋ = (n : ℤ) := by
    rw [Int.floor_eq_iff]
    push_cast
    constructor <;> linarith
  unfold Ideal.fptosi
  rw [Ideal.toIntClamped_coe, if_pos h0, hf]
  have : ∀ lo hi : Int, lo ≤ 0 → 2048 ≤ hi → max lo (min hi (n : ℤ)) = (n : ℤ) := by omega
  rw [this _ _ (by norm_num) (by norm_num)]
  exact BitVec.ofInt_natCast 32 n

/-- The entry at row `r`, column `k` of the 0/1 matrix. -/
def oneAt (r k : Fin 512) : EReal :=
  FloatOps.sitofp (F := Ideal) .f32 ((IntOp.cmpi .eq (BitVec.ofNat 32 k.val) (revWord (BitVec.ofNat 32 r.val))).setWidth 32)

theorem oneAt_eq (r k : Fin 512) : oneAt r k = if k = rowAt r then 1 else 0 := by
  unfold oneAt
  rw [revWord_eq]
  by_cases h : k = rowAt r
  · subst h
    rw [if_pos rfl]
    have : IntOp.cmpi .eq (BitVec.ofNat 32 (rowAt r).val) (BitVec.ofNat 32 (rowAt r).val) = 1#1 := by
      simp [IntOp.cmpi]
    rw [this]
    show (((1 : Int) : ℝ) : EReal) = 1
    norm_num
  · rw [if_neg h]
    have hne : BitVec.ofNat 32 k.val ≠ BitVec.ofNat 32 (rowAt r).val := by
      intro e
      apply h
      have := congrArg BitVec.toNat e
      rw [BitVec.toNat_ofNat, BitVec.toNat_ofNat, Nat.mod_eq_of_lt (by omega), Nat.mod_eq_of_lt (by omega)] at this
      exact Fin.ext this
    have : IntOp.cmpi .eq (BitVec.ofNat 32 k.val) (BitVec.ofNat 32 (rowAt r).val) = 0#1 := by
      show BitVec.ofBool (BitVec.ofNat 32 k.val == BitVec.ofNat 32 (rowAt r).val) = _
      rw [beq_eq_false_iff_ne.mpr hne]
      rfl
    rw [this]
    show (((0 : Int) : ℝ) : EReal) = 0
    norm_num

/-- The 0/1 matrix. -/
def oneMat : FVec Ideal S512x512 .f32 :=
  sitofp .f32 (extui 32 (cmpi .eq (iota .tc S512x512 32 [1] iota_S512x512_d1_w32)
    (broadcastTo S512x512 (fun i => revWord (rowIota i)) broadcasts_S512x1_S512x512)) natLt_1_32)

theorem oneMat_apply (r k : Fin 512) : oneMat (ix2 r k) = oneAt r k := by
  have hb : broadcastTo S512x512 (fun i => revWord (rowIota i)) broadcasts_S512x1_S512x512 (ix2 r k)
      = revWord (BitVec.ofNat 32 r.val) := by
    rw [Idealize.ShloMosaic.broadcastTo_apply _ _ _ (ix2 r (0 : Fin 1)) (by intro i; fin_cases i <;> rfl)]
    rw [rowIota_apply]
  have hi : iota .tc S512x512 32 [1] iota_S512x512_d1_w32 (ix2 r k) = BitVec.ofNat 32 k.val := by
    show BitVec.ofNat 32 (0 * 512 + k.val) = _
    simp
  show FloatOps.sitofp (F := Ideal) .f32 ((IntOp.cmpi .eq (iota .tc S512x512 32 [1] iota_S512x512_d1_w32 (ix2 r k))
    (broadcastTo S512x512 (fun i => revWord (rowIota i)) broadcasts_S512x1_S512x512 (ix2 r k))).setWidth 32) = _
  rw [hb, hi]
  rfl

theorem readout_eq (idx : IVec S512x128 32) (r : Fin 512) (c : Fin 128) :
    readout (F := Ideal) idx (ix2 r c)
      = Ideal.fptosi 32 (FloatOps.matmul (F := Ideal) (DotDims.plain 512 512 128) none oneMat (sitofp .f32 idx)
          (constant S512x128 .f32 0x00000000#32) (ix2 r c) + Ideal.ofBits .f32 0x3F000000#32) := rfl

/-- A block of row numbers below 2048 is read out with its rows permuted. -/
theorem readout_apply (idx : IVec S512x128 32) (r : Fin 512) (c : Fin 128) (n : Nat) (hn : n < 2048)
    (h : idx (ix2 (rowAt r) c) = BitVec.ofNat 32 n) : readout (F := Ideal) idx (ix2 r c) = BitVec.ofNat 32 n := by
  rw [readout_eq, Ideal.matmul_plain_apply, half_f32, Finset.sum_eq_single (rowAt r)]
  · rw [oneMat_apply, oneAt_eq, if_pos rfl, one_mul]
    show Ideal.fptosi 32 (Ideal.ofBits .f32 0x00000000#32 + (((idx (ix2 (rowAt r) c)).toInt : ℝ) : EReal) + _) = _
    rw [h, Ideal.ofBits_zero_f32, zero_add]
    have ht : (BitVec.ofNat 32 n).toInt = (n : ℤ) := by
      rw [BitVec.toInt_eq_toNat_cond, BitVec.toNat_ofNat, Nat.mod_eq_of_lt (by omega), if_pos (by omega)]
    rw [ht, Int.cast_natCast]
    exact fptosi_half n hn
  · intro k _ hk
    rw [oneMat_apply, oneAt_eq, if_neg hk, zero_mul]
  · intro hk
    exact absurd (Finset.mem_univ _) hk

/-- Row `r` of the output block is the row number of the entry at position `r` of the network. -/
theorem readout_net (L : Vec Ideal S1x2048x128 .f32) (r : Fin 512) (c : Fin 128) :
    readout (F := Ideal) (net L).2 (ix2 r c) = idxE (netEnt L c r) := by
  refine readout_apply _ r c _ (OrderDual.ofDual (ofLex (netEnt L c r)).2).isLt ?_
  rw [(net_rep L c (rowAt r)).2, pos_rowAt]
  rfl

end Cert.KernelIdeal.Hand

end
-- ==== Proof.TopK.lean ====
/- The reference's choice of the 512 greatest, against the network's: a stable sort of a row's positions by key alone is the
   sort by key and then position, so its first 512 positions are those of the 512 greatest entries in order. -/
module

public import proofs.«01_k».proof.Proof.Readout
public import Idealize.ShloMosaic.Lib.SortNet.Positions
public import proofs.«01_k».proof.Proof.RefRun

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx Idealize.ShloMosaic.SortNet

/-- On a list of ascending positions the stable sort by key is the sort by key and then position. -/
theorem stableSort_entAt (L : Vec Ideal S1x2048x128 .f32) (c : Fin 128) (key : Fin 2048 → EReal)
    (hkey : ∀ i, key i = L (ix3 (0 : Fin 1) i c)) (l : List (Fin 2048)) (hl : l.Pairwise (· < ·)) :
    stableSort (fun a b => Ideal.cmpTotal .gt (key a) (key b) == 1#1) l = stableSort (greaterFirst (entAt L c)) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    have hcmp : Ideal.cmpTotal .gt (key b) (key a) = BitVec.ofBool (decide (key a < key b)) := rfl
    have hlt : (entAt L c a < entAt L c b) ↔ key a < key b := by
      unfold entAt
      rw [Prod.Lex.toLex_lt_toLex, ← hkey, ← hkey]
      constructor
      · rintro (h | ⟨_, h⟩)
        · exact h
        · exact absurd (OrderDual.toDual_lt_toDual.mp h) (lt_asymm hab)
      · exact Or.inl
    unfold greaterFirst
    rw [hcmp]
    by_cases h : key a < key b
    · rw [decide_eq_true h, decide_eq_true (hlt.mpr h)]; rfl
    · rw [decide_eq_false h, decide_eq_false (fun h' => h (hlt.mp h'))]; rfl

theorem sortedFrom_congr {n : Nat} (R R' : Fin n → Fin n → Bool) (h : stableSort R (List.finRange n) = stableSort R' (List.finRange n))
    (k : Fin n) : sortedFrom R k = sortedFrom R' k := by
  unfold sortedFrom sortPositions
  simp only [List.get_eq_getElem]
  exact getElem_congr_coll h

theorem sortedFrom_entAt (L : Vec Ideal S1x2048x128 .f32) (c : Fin 128) (key : Fin 2048 → EReal)
    (hkey : ∀ i, key i = L (ix3 (0 : Fin 1) i c)) (k : Fin 2048) :
    sortedFrom (fun a b => Ideal.cmpTotal .gt (key a) (key b) == 1#1) k = sortedFrom (greaterFirst (entAt L c)) k :=
  sortedFrom_congr _ _ (stableSort_entAt L c key hkey (List.finRange 2048) (List.pairwise_lt_finRange 2048)) k

/-- The positions the host's selection gives, for any extents. -/
theorem topK_eq {m n K : Nat} (hK : K ≤ n) (x : FVec Ideal ⟨3, ![1, m, n]⟩ .f32) (h) (q : Fin m) (k : Fin K) :
    (Host.topK (⟨3, ![1, m, K]⟩ : Shape) 2 (FloatOps.cmpfTotal (F := Ideal) (φ := .f32) .gt) x h).2 (ix3 (0 : Fin 1) q k)
      = BitVec.ofNat 32 (sortedFrom (fun a b => Ideal.cmpTotal .gt (x (ix3 (0 : Fin 1) q a)) (x (ix3 (0 : Fin 1) q b)) == 1#1)
          (k.castLE hK)).val := by
  have key : ∀ (j : (⟨3, ![1, m, n]⟩ : Shape).Idx),
      (Host.sort2 (⟨3, ![1, m, n]⟩ : Shape) 2 (fun l r : EReal × BitVec 32 => Ideal.cmpTotal .gt l.1 r.1) x
        (fun i => if hd : 2 < 3 then iotaInDim (⟨3, ![1, m, n]⟩ : Shape) 32 ⟨2, hd⟩ i else 0#32)).2 j
      = BitVec.ofNat 32 (sortedFrom (fun a b : Fin n => Ideal.cmpTotal .gt (x (j.along 2 a)) (x (j.along 2 b)) == 1#1) (j 2)).val := by
    intro j
    unfold Host.sort2
    rw [dif_pos (show 2 < 3 by decide)]
    dsimp only
    rw [dif_pos (by decide)]
    unfold iotaInDim
    exact congrArg (BitVec.ofNat 32) (congrArg Fin.val (Function.update_self _ _ _))
  unfold Host.topK
  dsimp only
  rw [extractStridedSlice_apply _ _ _ _ (ix3 (0 : Fin 1) q (k.castLE hK)) (by intro i; fin_cases i <;> simp)]
  refine (key _).trans ?_
  have hal : ∀ a : Fin n, (ix3 (0 : Fin 1) q (k.castLE hK)).along 2 a = ix3 (0 : Fin 1) q a := by
    intro a
    funext i
    fin_cases i <;> rfl
  simp only [hal]
  rfl

theorem idxE_entAt (L : Vec Ideal S1x2048x128 .f32) (c : Fin 128) (i : Fin 2048) : idxE (entAt L c i) = BitVec.ofNat 32 i.val := rfl

/-- Where the reference's scores of query `q` are the block's column `c`, the reference's chosen positions are the network's. -/
theorem topK_net (x : FVec Ideal ⟨3, ![1, 2048, 2048]⟩ .f32) (h) (L : Vec Ideal S1x2048x128 .f32) (q : Fin 2048) (c : Fin 128)
    (hx : ∀ i : Fin 2048, x (ix3 (0 : Fin 1) q i) = L (ix3 (0 : Fin 1) i c)) (k : Fin 512) :
    (Host.topK (⟨3, ![1, 2048, 512]⟩ : Shape) 2 (FloatOps.cmpfTotal (F := Ideal) (φ := .f32) .gt) x h).2 (ix3 (0 : Fin 1) q k)
      = readout (F := Ideal) (net L).2 (ix2 k c) := by
  rw [topK_eq (by omega : 512 ≤ 2048), readout_net, sortedFrom_entAt L c (fun i => x (ix3 (0 : Fin 1) q i)) hx]
  have h1 := entry_sortedFrom_eq_topList (entAt L c) (entAt_injective L c) (2 ^ 9) (k.castLE (by omega)) k.isLt
  have h2 : allEnts L c = List.ofFn (entAt L c) := List.ofFn_eq_map.symm
  rw [← h2, ← netEnt_top] at h1
  have h3 : (List.ofFn (netEnt L c))[(k.castLE (by omega) : Fin 2048).val]? = some (netEnt L c k) := by
    rw [List.getElem?_ofFn, dif_pos (show (k.castLE (by omega) : Fin 2048).val < 2 ^ 9 from k.isLt)]
    rfl
  rw [h3] at h1
  rw [← Option.some.inj h1, idxE_entAt]

end Cert.KernelIdeal.Hand

end
-- ==== Proof.Arrays.lean ====
/- The kernel's result as an array: which columns each step's blocks are, the scores of a query's column against the reference's,
   and the written blocks put together. -/
module

public import proofs.«01_k».proof.Proof.ScoreSum
public import proofs.«01_k».proof.Proof.HostVal
public import proofs.«01_k».proof.Proof.RefScore
public import proofs.«01_k».proof.Proof.TopK
public import Idealize.ShloMosaic.Lib.Pipeline.ValueKit

@[expose] public section

set_option maxRecDepth 16384

noncomputable section

namespace Cert.KernelIdeal.Hand

open Cert.KernelIdeal Cert.KernelIdeal.Gen
open Idealize.ShloMosaic hiding ix0 ix1 ix2 ix3
open Idealize.ShloMosaic.TcCoe Idealize.ShloMosaic.ValueIdx Idealize.ShloMosaic.StableHlo Idealize.SL.Sem
open Cert.ReferenceIdeal.Read (keyRow queryEnt weightEnt refScore)

/-- The step whose scores are those of block `b`. -/
def stepOf (b : Fin 16) : Fin cfg0.N := ⟨b.val, by rw [show cfg0.N = 17 from N_0]; omega⟩

theorem index_q : ∀ t : Fin cfg0.N, t.val < 16 → win0_0.index t = ![0, t.val] :=
  (by decide +kernel : ∀ t : Fin grid0.N, t.val < 16 → win0_0.index t = ![0, t.val])

theorem index_p : ∀ t : Fin cfg0.N, win0_1.index t = ![0, 0] :=
  (by decide +kernel : ∀ t : Fin grid0.N, win0_1.index t = ![0, 0])

theorem index_k : ∀ t : Fin cfg0.N, win0_2.index t = ![0, 0] :=
  (by decide +kernel : ∀ t : Fin grid0.N, win0_2.index t = ![0, 0])

theorem index_w : ∀ t : Fin cfg0.N, t.val < 16 → win0_3.index t = ![0, t.val] :=
  (by decide +kernel : ∀ t : Fin grid0.N, t.val < 16 → win0_3.index t = ![0, t.val])

theorem index_o : ∀ t : Fin cfg0.N, win0_4.index t = ![0, t.val - 1] :=
  (by decide +kernel : ∀ t : Fin grid0.N, win0_4.index t = ![0, t.val - 1])

theorem covers_o : (cfg0.win 4).Covers := by decide +kernel

variable (m : (ℓ : Loc nD τ sig) → Buf (Elt Ideal) ℓ)

theorem qBlk_apply (c : Dev nD) (t : Fin cfg0.N) (ht : t.val < 16) (e : Fin 1024) (q : Fin 128) :
    qBlk m c t (ix2 e q) = m ((c.tc : Thread nD τ).loc main_arg1) (ix3 (0 : Fin 1) (⟨128 * t.val + q.val, by omega⟩ : Fin 2048) e) := by
  unfold qBlk
  blk_simp [iblk]
  rw [V_q]
  refine Eq.trans (congrArg (hQ _) ?_) (hQ_apply _ e (⟨128 * t.val + q.val, by omega⟩ : Fin 2048))
  blk_ext [index_q t ht]
  show t.val * 128 + q.val = 128 * t.val + q.val
  omega

theorem pBlk_apply (c : Dev nD) (t : Fin cfg0.N) (r e : Fin 1024) :
    pBlk m c t (ix2 r e) = m ((c.tc : Thread nD τ).loc main_arg2) (ix2 r e) := by
  unfold pBlk
  blk_simp [iblk]
  rw [V_main_arg2]
  refine congrArg (m ((c.tc : Thread nD τ).loc main_arg2)) ?_
  blk_ext [index_p t]

theorem kBlk_apply (c : Dev nD) (t : Fin cfg0.N) (i : Fin 2048) (d : Fin 64) :
    kBlk m c t (ix2 i d) = V m c main_v22 (ix2 i d) := by
  unfold kBlk
  blk_simp [iblk]
  refine congrArg (V m c main_v22) ?_
  blk_ext [index_k t]

theorem wBlk_apply (c : Dev nD) (t : Fin cfg0.N) (ht : t.val < 16) (h : Fin 16) (q : Fin 128) :
    wBlk m c t (ix2 h q) = V m c main_v27 (ix2 h (⟨128 * t.val + q.val, by omega⟩ : Fin 2048)) := by
  unfold wBlk
  blk_simp [iblk]
  refine congrArg (V m c main_v27) ?_
  blk_ext [index_w t ht]
  show t.val * 128 + q.val = 128 * t.val + q.val
  omega

/-- The reference's score of query `q` and key `i`, at the kernel's arguments. -/
def scoreAt (c : Dev nD) (q i : Fin 2048) : EReal :=
  refScore (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) q i

/-- A step's scores are the reference's, of the step's 128 queries. -/
theorem scores_ref (c : Dev nD) (t : Fin cfg0.N) (ht : t.val < 16) (i : Fin 2048) (q : Fin 128) :
    scores m c t (ix3 (0 : Fin 1) i q) = scoreAt m c (⟨128 * t.val + q.val, by omega⟩ : Fin 2048) i := by
  rw [scores_eq, blockScores_apply]
  unfold scoreAt refScore
  refine Finset.sum_congr rfl fun h _ => ?_
  rw [wBlk_apply m c t ht, V_w, hW_apply]
  have hk : ∀ d : Fin 64, kBlk m c t (ix2 i d) = rowNorm
      (keyRow (m ((c.tc : Thread nD τ).loc main_arg0)) (m ((c.tc : Thread nD τ).loc main_arg3)) i)
      (fun d => m ((c.tc : Thread nD τ).loc main_arg4) (ix1 d)) (fun d => m ((c.tc : Thread nD τ).loc main_arg5) (ix1 d)) d := fun d => by
    rw [kBlk_apply, V_k, hK_apply]
    refine congrArg (fun y => rowNorm y _ _ d) (funext fun d => ?_)
    rw [hY_apply]
    rfl
  have hq : ∀ r : Fin 1024, (∑ e : Fin 1024, pBlk m c t (ix2 r e) * qBlk m c t (ix2 e q))
      = queryEnt (m ((c.tc : Thread nD τ).loc main_arg1)) (m ((c.tc : Thread nD τ).loc main_arg2)) (⟨128 * t.val + q.val, by omega⟩ : Fin 2048) r := fun r => by
    refine Finset.sum_congr rfl fun e _ => ?_
    rw [pBlk_apply, qBlk_apply m c t ht]
    exact mul_comm (G := EReal) _ _
  rw [Finset.sum_congr rfl fun d _ => by rw [hk d, hq, mul_comm (G := EReal)]]
  show (_ : EReal) * (weightEnt (m ((c.tc : Thread nD τ).loc main_arg0)) (m ((c.tc : Thread nD τ).loc main_arg6)) (⟨128 * t.val + q.val, by omega⟩ : Fin 2048) h * eighth) = _
  rw [mul_comm (G := EReal) (weightEnt _ _ _ _) eighth, ← mul_assoc]
  rfl

/-- The reference's answer at the kernel's arguments. -/
def answer (c : Dev nD) : IVec (⟨3, ![1, 2048, 512]⟩ : Shape) 32 :=
  Cert.ReferenceIdeal.Read.val_main_indices (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The block a step writes is the reference's answer, transposed, for its 128 queries. -/
theorem outBlk_ref (c : Dev nD) (t : Fin cfg0.N) (k : Fin 512) (q : Fin 128) (Q : Fin 2048) (hQ : Q.val = 128 * (prev t).val + q.val)
    (ht : (prev t).val < 16) :
    outBlk m c t (ix2 k q) = answer m c (ix3 (0 : Fin 1) Q k) := by
  have hQ' : Q = (⟨128 * (prev t).val + q.val, by omega⟩ : Fin 2048) := Fin.ext hQ
  unfold outBlk answer Cert.ReferenceIdeal.Read.val_main_indices
  refine (topK_net _ _ (scores m c (prev t)) Q q (fun i => ?_) k).symm
  rw [scores_ref m c (prev t) ht, hQ', Cert.ReferenceIdeal.Read.v33_score]
  rfl

/-- What the grid leaves in its result's array. -/
def table (c : Dev nD) : IVec S512x2048 32 := fun j => answer m c (ix3 (0 : Fin 1) (j 1) (j 0))

theorem prev_lt (t : Fin cfg0.N) : (prev t).val < 16 := by
  have hN : t.val < 17 := lt_of_lt_of_eq t.isLt (show cfg0.N = 17 from N_0)
  show t.val - 1 < 16
  omega

theorem arr_o (c : Dev nD) : (dats m 0 c).arrAt 4 cfg0.N = table m c := by
  refine (dats m 0 c).arrAt_eq_of_covers 4 _ covers_o fun t hf y => ?_
  blk_simp
  rw [after0_4]
  have e := index_o t
  have h0 : ((((cfg0.win 4).blk t).view.emb y) 0 : Fin 512) = (y 0 : Fin 512) := by
    apply Fin.ext
    blk_simp [e]
  have h1 : ((((cfg0.win 4).blk t).view.emb y) 1 : Fin 2048).val = 128 * (prev t).val + (y 1 : Fin 128).val := by
    blk_simp [e]
    show (t.val - 1) * 128 + _ = 128 * (t.val - 1) + _
    omega
  have hy : y = ix2 (y 0 : Fin 512) (y 1 : Fin 128) := ValueIdx.eq_ix2 y
  show outBlk m c t y = answer m c (ix3 (0 : Fin 1) ((((cfg0.win 4).blk t).view.emb y) 1) ((((cfg0.win 4).blk t).view.emb y) 0))
  rw [h0]
  exact (congrArg (outBlk m c t) hy).trans (outBlk_ref m c t _ _ _ h1 (prev_lt t))

/-- The kernel's result is the reference's answer. -/
theorem result_o (c : Dev nD) : Pipeline.afterTail₀ cfgs (dats m) 0 (V0 m) [hostOps1] c main_v30 = answer m c := by
  unfold Pipeline.afterTail₀
  have h : StableHlo.after (List.flatten [hostOps1]) (Pipeline.withArrays spec0 c (V0 m c) fun w => (dats m 0 c).arrAt w cfg0.N) (Proc.devRef .tc main_v30)
      = shapeCast S1x2048x512 (transpose S2048x512 [1, 0]
          (Pipeline.withArrays spec0 c (V0 m c) (fun w => (dats m 0 c).arrAt w cfg0.N) (Proc.devRef .tc (Pipeline.arrRef spec0 4))) transposes_S512x2048_S2048x512_1_0) shapeCasts_S2048x512_S1x2048x512 := by
    simp only [hostOps1, List.flatten, List.append, List.cons_append, List.nil_append, List.append_nil]
    after_results_simp <;> rfl
  refine h.trans ?_
  rw [Pipeline.withArrays_arr spec0 launch0.win.arr_inj c _ _ 4, arr_o]
  funext j
  obtain ⟨z, q, k, rfl⟩ : ∃ (z : Fin 1) (q : Fin 2048) (k : Fin 512), j = ix3 z q k := ⟨j 0, j 1, j 2, ValueIdx.eq_ix3 j⟩
  obtain rfl : z = 0 := Subsingleton.elim _ _
  refine (shapeCast_apply _ _ (ix3 (0 : Fin 1) q k) (ix2 q k) (by rw [Shape.rowMajor_val_two, Shape.rowMajor_val_three]; simp)).trans ?_
  exact (transpose_apply _ _ _ (ix2 q k) (ix2 k q) (by intro a; fin_cases a <;> rfl)).trans rfl

/-- The kernel runs, its result the reference's answer and its arguments as they were. -/
theorem value (ρ : Dev nD → PrngReg) : θ_run defs (onTc (τ := τ) (main (F := Ideal))) ⟨m, fun _ => 0, ρ⟩ (fun r => ∀ c : Dev nD,
      r.2.mem ((c.tc : Thread nD τ).loc main_v30) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v30 (Pipeline.mem_restRefs_of main_v30 (by decide) (by decide))).trans (result_o m c), h.2 c⟩)
    (θ_run_and (run_main m ρ) (unchanged m ρ))

end Cert.KernelIdeal.Hand

end
-- ==== Proof.lean ====
/- The proof of the claims about Kernel, KernelIdeal and ReferenceIdeal, put together from the modules of Proof/. -/
module

public import proofs.«01_k».proof.Defs
public import proofs.«01_k».proof.Proof.Bits.Frame
public import proofs.«01_k».proof.Proof.Run
public import proofs.«01_k».proof.Proof.RefRun
public import proofs.«01_k».proof.Proof.Arrays
public import Idealize.ShloMosaic.Lib.Quiescent

@[expose] public section

noncomputable section

namespace Cert.Proof

open Idealize.ShloMosaic Idealize.SL.Sem

/-- The idealized reference ends with its arguments unchanged and every counter at zero. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Hand.run (F := Ideal) m ρ)

/-- Run on the same arguments, the idealized kernel's result is the idealized reference's. -/
theorem value : Cert.algebraic_KernelIdeal_ReferenceIdeal (hKernelIdeal := Cert.KernelIdeal.Gen.facts)
    (hReferenceIdeal := Cert.ReferenceIdeal.Gen.facts) := fun m g m' g' _ hargs =>
  ⟨Cert.KernelIdeal.Hand.answer m, Cert.KernelIdeal.Hand.value m g,
    (θ_run Cert.ReferenceIdeal.defs _ _).mono (fun r h c => ⟨(h c).1.trans (by
      obtain ⟨h0, h1, h2, h3, h4, h5, h6⟩ := hargs c
      rw [Cert.ReferenceIdeal.Read.val_main_indices_eq, h0, h1, h2, h3, h4, h5, h6]
      rfl), (h c).2⟩) (Cert.ReferenceIdeal.Hand.run (F := Ideal) m' g')⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, ref_frame, trivial, value⟩

end Cert.Proof

end
